-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S64x32x64x768 : Shape := ⟨4, ![64, 32, 64, 768]⟩
abbrev S64x32 : Shape := ⟨2, ![64, 32]⟩
abbrev S64x32x64 : Shape := ⟨3, ![64, 32, 64]⟩
abbrev S768 : Shape := ⟨1, ![768]⟩
abbrev S768x1024 : Shape := ⟨2, ![768, 1024]⟩
abbrev S1024 : Shape := ⟨1, ![1024]⟩
abbrev S1024x20 : Shape := ⟨2, ![1024, 20]⟩
abbrev S20 : Shape := ⟨1, ![20]⟩
abbrev S_ : Shape := ⟨0, ![]⟩

class Facts : Prop where
  bcast_S_S64x32x64x768 : S_.BroadcastsInDim S64x32x64x768 (![] : Fin 0 → Fin S64x32x64x768.rank)
  reducesTo_S64x32x64x768_S_d0_1_2_3 : S64x32x64x768.ReducesTo [0, 1, 2, 3] S_
  h_S_ : 0 < S_.numel
  bcast_S_S768 : S_.BroadcastsInDim S768 (![] : Fin 0 → Fin S768.rank)
  reducesTo_S768_S_d0 : S768.ReducesTo [0] S_
  reducesTo_S64x32_S_d0_1 : S64x32.ReducesTo [0, 1] S_
  reducesTo_S64x32x64_S_d0_1_2 : S64x32x64.ReducesTo [0, 1, 2] S_

variable [Facts]

def fn {F : FTy → Type} [FloatOps F] (main_arg0 : FVec F S64x32x64x768 .f32) (main_arg1 : IVec S64x32 1) (main_arg2 : IVec S64x32x64 1) (main_arg3 : FVec F S768 .f32) (main_arg4 : FVec F S768 .f32) (main_arg5 : FVec F S768x1024 .f32) (main_arg6 : FVec F S1024 .f32) (main_arg7 : FVec F S1024x20 .f32) (main_arg8 : FVec F S20 .f32) : IVec S_ 1 :=
  let main_v0 : FVec F S64x32x64x768 .f32 := Host.absf main_arg0
  let main_cst : FVec F S_ .f32 := constant S_ .f32 0x7F800000#32
  let main_v1 : FVec F S64x32x64x768 .f32 := broadcastInDim S64x32x64x768 ![] bcast_S_S64x32x64x768 main_cst
  let main_v2 : IVec S64x32x64x768 1 := cmpf .olt main_v0 main_v1
  let main_c : IVec S_ 1 := constantI S_ 1 1#1
  let main_v3 : IVec S_ 1 := (fun x v => Host.reduce IntOp.andi x v reducesTo_S64x32x64x768_S_d0_1_2_3 h_S_) main_v2 main_c
  let main_v4 : FVec F S768 .f32 := Host.absf main_arg3
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_c_2 : IVec S_ 1 := constantI S_ 1 1#1
  let main_v9 : IVec S_ 1 := (fun x v => Host.reduce IntOp.andi x v reducesTo_S64x32_S_d0_1 h_S_) main_arg1 main_c_2
  let main_v10 : IVec S_ 1 := andi main_v8 main_v9
  let main_c_3 : IVec S_ 1 := constantI S_ 1 1#1
  let main_v11 : IVec S_ 1 := (fun x v => Host.reduce IntOp.andi x v reducesTo_S64x32x64_S_d0_1_2 h_S_) main_arg2 main_c_3
  let main_v12 : IVec S_ 1 := andi main_v10 main_v11
  main_v12
-- ==== Kernel.lean ====
abbrev S64x32x64x768 : Shape := ⟨4, ![64, 32, 64, 768]⟩
abbrev S64x32 : Shape := ⟨2, ![64, 32]⟩
abbrev S64x32x64 : Shape := ⟨3, ![64, 32, 64]⟩
abbrev S768 : Shape := ⟨1, ![768]⟩
abbrev S768x1024 : Shape := ⟨2, ![768, 1024]⟩
abbrev S1024 : Shape := ⟨1, ![1024]⟩
abbrev S1024x20 : Shape := ⟨2, ![1024, 20]⟩
abbrev S20 : Shape := ⟨1, ![20]⟩
abbrev S64x1x768 : Shape := ⟨3, ![64, 1, 768]⟩
abbrev S2x16x64x768 : Shape := ⟨4, ![2, 16, 64, 768]⟩
abbrev S2x1x768 : Shape := ⟨3, ![2, 1, 768]⟩
abbrev S1x4x64x768 : Shape := ⟨4, ![1, 4, 64, 768]⟩
abbrev S4x64x768 : Shape := ⟨3, ![4, 64, 768]⟩
abbrev S1x1x768 : Shape := ⟨3, ![1, 1, 768]⟩
abbrev S4x64 : Shape := ⟨2, ![4, 64]⟩
abbrev S4x64x1 : Shape := ⟨3, ![4, 64, 1]⟩
abbrev S4x1 : Shape := ⟨2, ![4, 1]⟩
abbrev S4x1x1 : Shape := ⟨3, ![4, 1, 1]⟩
abbrev S4x768 : Shape := ⟨2, ![4, 768]⟩
abbrev S32x768 : Shape := ⟨2, ![32, 768]⟩
abbrev S1x768 : Shape := ⟨2, ![1, 768]⟩
abbrev S32 : Shape := ⟨1, ![32]⟩
abbrev S32x1 : Shape := ⟨2, ![32, 1]⟩
abbrev S1 : Shape := ⟨1, ![1]⟩
abbrev S1x1 : Shape := ⟨2, ![1, 1]⟩
abbrev S20x1024 : Shape := ⟨2, ![20, 1024]⟩
abbrev S20x64 : Shape := ⟨2, ![20, 64]⟩
abbrev S64x768 : Shape := ⟨2, ![64, 768]⟩
abbrev S64x1024 : Shape := ⟨2, ![64, 1024]⟩
abbrev S1x1024 : Shape := ⟨2, ![1, 1024]⟩
abbrev S64x20 : Shape := ⟨2, ![64, 20]⟩
abbrev S1x20 : Shape := ⟨2, ![1, 20]⟩

abbrev nBuf : Space → Nat
  | .hbm => 13
  | .vmem => 14
  | .smem => 0
  | _ => 0

abbrev bufTy : (tb : Table) → Fin (tcTables nBuf tb) → BufTy
  | .hbm, ⟨0, _⟩ => ⟨S64x32x64x768, .f32⟩
  | .hbm, ⟨1, _⟩ => ⟨S64x32, .i1⟩
  | .hbm, ⟨2, _⟩ => ⟨S64x32x64, .i1⟩
  | .hbm, ⟨3, _⟩ => ⟨S768, .f32⟩
  | .hbm, ⟨4, _⟩ => ⟨S768, .f32⟩
  | .hbm, ⟨5, _⟩ => ⟨S768x1024, .f32⟩
  | .hbm, ⟨6, _⟩ => ⟨S1024, .f32⟩
  | .hbm, ⟨7, _⟩ => ⟨S1024x20, .f32⟩
  | .hbm, ⟨8, _⟩ => ⟨S20, .f32⟩
  | .hbm, ⟨9, _⟩ => ⟨S64x1x768, .f32⟩
  | .hbm, ⟨10, _⟩ => ⟨S20x1024, .f32⟩
  | .hbm, ⟨11, _⟩ => ⟨S20x64, .f32⟩
  | .hbm, ⟨12, _⟩ => ⟨S64x20, .f32⟩
  | .local _ .vmem, ⟨0, _⟩ => ⟨S2x16x64x768, .f32⟩
  | .local _ .vmem, ⟨1, _⟩ => ⟨S2x16x64x768, .f32⟩
  | .local _ .vmem, ⟨2, _⟩ => ⟨S2x16x64x768, .f32⟩
  | .local _ .vmem, ⟨3, _⟩ => ⟨S2x16x64x768, .f32⟩
  | .local _ .vmem, ⟨4, _⟩ => ⟨S768, .f32⟩
  | .local _ .vmem, ⟨5, _⟩ => ⟨S768, .f32⟩
  | .local _ .vmem, ⟨6, _⟩ => ⟨S2x1x768, .f32⟩
  | .local _ .vmem, ⟨7, _⟩ => ⟨S2x1x768, .f32⟩
  | .local _ .vmem, ⟨8, _⟩ => ⟨S64x1x768, .f32⟩
  | .local _ .vmem, ⟨9, _⟩ => ⟨S768x1024, .f32⟩
  | .local _ .vmem, ⟨10, _⟩ => ⟨S1024, .f32⟩
  | .local _ .vmem, ⟨11, _⟩ => ⟨S20x1024, .f32⟩
  | .local _ .vmem, ⟨12, _⟩ => ⟨S20, .f32⟩
  | .local _ .vmem, ⟨13, _⟩ => ⟨S20x64, .f32⟩
  | _, _ => ⟨S64x32x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S64x1x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S768x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S20x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S20x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S64x32x64x768 : Shape := ⟨4, ![64, 32, 64, 768]⟩
abbrev S64x32 : Shape := ⟨2, ![64, 32]⟩
abbrev S64x32x64 : Shape := ⟨3, ![64, 32, 64]⟩
abbrev S768 : Shape := ⟨1, ![768]⟩
abbrev S768x1024 : Shape := ⟨2, ![768, 1024]⟩
abbrev S1024 : Shape := ⟨1, ![1024]⟩
abbrev S1024x20 : Shape := ⟨2, ![1024, 20]⟩
abbrev S20 : Shape := ⟨1, ![20]⟩
abbrev S_ : Shape := ⟨0, ![]⟩
abbrev S64x32x1 : Shape := ⟨3, ![64, 32, 1]⟩
abbrev S64x32x768 : Shape := ⟨3, ![64, 32, 768]⟩
abbrev S64 : Shape := ⟨1, ![64]⟩
abbrev S64x1 : Shape := ⟨2, ![64, 1]⟩
abbrev S64x768 : Shape := ⟨2, ![64, 768]⟩
abbrev S64x1024 : Shape := ⟨2, ![64, 1024]⟩
abbrev S1x1024 : Shape := ⟨2, ![1, 1024]⟩
abbrev S64x20 : Shape := ⟨2, ![64, 20]⟩
abbrev S1x20 : Shape := ⟨2, ![1, 20]⟩

abbrev nBuf : Space → Nat
  | .hbm => 66
  | .vmem => 0
  | .smem => 0
  | _ => 0

abbrev bufTy : (tb : Table) → Fin (tcTables nBuf tb) → BufTy
  | .hbm, ⟨0, _⟩ => ⟨S64x32x64x768, .f32⟩
  | .hbm, ⟨1, _⟩ => ⟨S64x32, .i1⟩
  | .hbm, ⟨2, _⟩ => ⟨S64x32x64, .i1⟩
  | .hbm, ⟨3, _⟩ => ⟨S768, .f32⟩
  | .hbm, ⟨4, _⟩ => ⟨S768, .f32⟩
  | .hbm, ⟨5, _⟩ => ⟨S768x1024, .f32⟩
  | .hbm, ⟨6, _⟩ => ⟨S1024, .f32⟩
  | .hbm, ⟨7, _⟩ => ⟨S1024x20, .f32⟩
  | .hbm, ⟨8, _⟩ => ⟨S20, .f32⟩
  | .hbm, ⟨9, _⟩ => ⟨S64x32x64, .f32⟩
  | .hbm, ⟨10, _⟩ => ⟨S_, .f32⟩
  | .hbm, ⟨11, _⟩ => ⟨S_, .f32⟩
  | .hbm, ⟨12, _⟩ => ⟨S64x32x64, .f32⟩
  | .hbm, ⟨13, _⟩ => ⟨S64x32x64, .f32⟩
  | .hbm, ⟨14, _⟩ => ⟨S_, .f32⟩
  | .hbm, ⟨15, _⟩ => ⟨S64x32, .f32⟩
  | .hbm, ⟨16, _⟩ => ⟨S_, .f32⟩
  | .hbm, ⟨17, _⟩ => ⟨S64x32, .f32⟩
  | .hbm, ⟨18, _⟩ => ⟨S64x32, .f32⟩
  | .hbm, ⟨19, _⟩ => ⟨S64x32x1, .f32⟩
  | .hbm, ⟨20, _⟩ => ⟨S64x32x64, .f32⟩
  | .hbm, ⟨21, _⟩ => ⟨S64x32x64, .f32⟩
  | .hbm, ⟨22, _⟩ => ⟨S64x32x64, .f32⟩
  | .hbm, ⟨23, _⟩ => ⟨S_, .f32⟩
  | .hbm, ⟨24, _⟩ => ⟨S64x32, .f32⟩
  | .hbm, ⟨25, _⟩ => ⟨S64x32x1, .f32⟩
  | .hbm, ⟨26, _⟩ => ⟨S64x32x64, .f32⟩
  | .hbm, ⟨27, _⟩ => ⟨S64x32x64, .f32⟩
  | .hbm, ⟨28, _⟩ => ⟨S64x32x768, .f32⟩
  | .hbm, ⟨29, _⟩ => ⟨S64x32x1, .i1⟩
  | .hbm, ⟨30, _⟩ => ⟨S_, .f32⟩
  | .hbm, ⟨31, _⟩ => ⟨S_, .f32⟩
  | .hbm, ⟨32, _⟩ => ⟨S64x32x768, .i1⟩
  | .hbm, ⟨33, _⟩ => ⟨S64x32x768, .f32⟩
  | .hbm, ⟨34, _⟩ => ⟨S64x32x768, .f32⟩
  | .hbm, ⟨35, _⟩ => ⟨S64x32, .f32⟩
  | .hbm, ⟨36, _⟩ => ⟨S_, .f32⟩
  | .hbm, ⟨37, _⟩ => ⟨S_, .f32⟩
  | .hbm, ⟨38, _⟩ => ⟨S64x32, .f32⟩
  | .hbm, ⟨39, _⟩ => ⟨S64x32, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64x1, .f32⟩
  | .hbm, ⟨46, _⟩ => ⟨S64x32, .f32⟩
  | .hbm, ⟨47, _⟩ => ⟨S64x32, .f32⟩
  | .hbm, ⟨48, _⟩ => ⟨S64x32, .f32⟩
  | .hbm, ⟨49, _⟩ => ⟨S_, .f32⟩
  | .hbm, ⟨50, _⟩ => ⟨S64, .f32⟩
  | .hbm, ⟨51, _⟩ => ⟨S64x1, .f32⟩
  | .hbm, ⟨52, _⟩ => ⟨S64x32, .f32⟩
  | .hbm, ⟨53, _⟩ => ⟨S64x32, .f32⟩
  | .hbm, ⟨54, _⟩ => ⟨S64x768, .f32⟩
  | .hbm, ⟨55, _⟩ => ⟨S64x1024, .f32⟩
  | .hbm, ⟨56, _⟩ => ⟨S1x1024, .f32⟩
  | .hbm, ⟨57, _⟩ => ⟨S64x1024, .f32⟩
  | .hbm, ⟨58, _⟩ => ⟨S64x1024, .f32⟩
  | .hbm, ⟨59, _⟩ => ⟨S_, .f32⟩
  | .hbm, ⟨60, _⟩ => ⟨S64x1024, .f32⟩
  | .hbm, ⟨61, _⟩ => ⟨S64x1024, .f32⟩
  | .hbm, ⟨62, _⟩ => ⟨S64x20, .f32⟩
  | .hbm, ⟨63, _⟩ => ⟨S1x20, .f32⟩
  | .hbm, ⟨64, _⟩ => ⟨S64x20, .f32⟩
  | .hbm, ⟨65, _⟩ => ⟨S64x20, .f32⟩
  | _, _ => ⟨S64x32x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call3_cst : Ref sig .tc := ⟨.hbm, 59, rfl⟩
abbrev main_call3_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== Proof.Run.lean ====
/- What the kernel leaves in its result array: the run of its four segments ends with every buffer at the contents of
   the last boundary, so the result array holds that boundary's value and each argument array is as it was. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The claim's reading of a device: the result array at the last boundary's contents, the nine arguments as launched. -/
def Ends (c : Dev nD) (s : (ℓ : Loc nD τ sig) → Buf (Elt F) ℓ) : Prop :=
  s ((c.tc : Thread nD τ).loc main_v3) = W4 m ρ c (Proc.devRef .tc main_v3)
  ∧ s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)

/-- A memory that agrees with the last boundary on every buffer ends as `Ends` says. -/
theorem ends_of_boundary (c : Dev nD) (s : (ℓ : Loc nD τ sig) → Buf (Elt F) ℓ)
    (h : ∀ b ∈ Pipeline.ucRefs τ sig, s ((c : Thread nD τ).1, b) = W4 m ρ c b) : Ends m ρ c s :=
  ⟨h _ (mem_uc main_v3 (by decide)),
   (h _ (mem_uc main_arg0 (by decide))).trans (W4_main_arg0 m ρ c),
   (h _ (mem_uc main_arg1 (by decide))).trans (W4_main_arg1 m ρ c),
   (h _ (mem_uc main_arg2 (by decide))).trans (W4_main_arg2 m ρ c),
   (h _ (mem_uc main_arg3 (by decide))).trans (W4_main_arg3 m ρ c),
   (h _ (mem_uc main_arg4 (by decide))).trans (W4_main_arg4 m ρ c),
   (h _ (mem_uc main_arg5 (by decide))).trans (W4_main_arg5 m ρ c),
   (h _ (mem_uc main_arg6 (by decide))).trans (W4_main_arg6 m ρ c),
   (h _ (mem_uc main_arg7 (by decide))).trans (W4_main_arg7 m ρ c),
   (h _ (mem_uc main_arg8 (by decide))).trans (W4_main_arg8 m ρ c)⟩

set_option backward.isDefEq.respectTransparency.types false in
/-- Every execution of the kernel from `m` ends with the result array at the last boundary's contents and the arguments
    unchanged. -/
theorem run : θ_run defs (onTc (τ := τ) (main (F := F))) ⟨m, fun _ => 0, ρ⟩ (fun r => ∀ c : Dev nD, Ends m ρ c r.2.mem) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W4 m ρ c b)
    (hL := fun _ _ => rfl)
    (hu₀ := by
      iintro Htoks; imodintro
      isplitl [Htoks]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htoks
      · iapply (show (BI.emp : sProp 𝕄) ⊢ bigSep Finset.univ (fun _ : Dev nD => (BI.emp : sProp 𝕄)) from by
          rw [BI.bigSep_emp_const])
        iempintro)
    (hch := by
      refine ⟨fun _ => .rfl, fun _ => .rfl, fun _ => .rfl, fun _ => .rfl, fun c => ?_⟩
      dsimp only [Pipeline.Seg.post, hseg, Pipeline.HostSeg.ofOps]
      iintro ⟨Hbufs, Hgen, Howed⟩
      isplitr [Howed]
      · isplitl [Hbufs] <;> iassumption
      · iexact Howed)
    (hinit := by
      refine Pipeline.initEach L lv fun c => ?_
      have hall : (unscopedBufs c (fun b => m ((c : Thread nD τ).loc b)) : sProp 𝕄)
          = StableHlo.held (c : Thread nD τ) (Pipeline.ucRefs τ sig) (W0 m ρ c) := Pipeline.unscopedBufs_held c (W0 m ρ c)
      rw [hall]
      iintro ⟨⟨Hbufs, -, Howed, -, Hgen, -⟩, -⟩
      imodintro
      isplitl [Hbufs]; · iexact Hbufs
      isplitl [Hgen]
      · iexists _; iexact Hgen
      · iexists ∅; iexact Howed)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h _ c => ends_of_boundary m ρ c s.mem (h c))

end Cert.Proof.KernelRun

end
-- ==== Proof.Chunk.lean ====
/- One chunk of the pooling kernel read at an index: the four token groups of a `[1, 4, 64, 768]` slice, each pooled over
   its 64 tokens with the weights `exp (token · w)` and one division at the end. -/
module

public import proofs.«01_k».proof.Proof.Gen.KernelIdeal.Skeleton
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.IdealHost

@[expose] public section

noncomputable section

namespace Cert.Proof.Pool

open Cert.KernelIdeal Cert.KernelIdeal.Gen
open Idealize.ShloMosaic Idealize.ShloMosaic.ValueIdx
open scoped BigOperators

/-! ## The pooled values as formulas -/

/-- The score of a vector against the weights: their inner product. -/
def dot (w x : Fin 768 → EReal) : EReal := ∑ e, x e * w e

/-- The kernel's pooled group: the tokens summed with weights `exp (score)`, then times one over the weights' sum. -/
def group (w : Fin 768 → EReal) (x : Fin 64 → Fin 768 → EReal) (e : Fin 768) : EReal :=
  (∑ t, Ideal.exp (dot w (x t)) * x t e) * Ideal.div 1 (∑ t, Ideal.exp (dot w (x t)))

/-! ## The reductions and layouts of a chunk -/

/-- A sum over the last of three axes. -/
theorem sum_last {a b c : Nat} (x : FVec Ideal ⟨3, ![a, b, c]⟩ .f32) (acc : BitVec FTy.f32.bits)
    (h : Shape.Reduces ⟨3, ![a, b, c]⟩ [2] ⟨2, ![a, b]⟩) (hφ : FKind.Formats .f32) (hacc : acc = FKind.add.neutral .f32 hφ)
    (i : Fin a) (j : Fin b) :
    multiReduction .add [2] ⟨2, ![a, b]⟩ x acc h hφ hacc (ix2 i j) = ∑ k : Fin c, x (ix3 i j k) :=
  (Ideal.multiReduction_add_single x acc h hφ hacc (ix2 i j)).trans (Finset.sum_congr rfl fun k _ =>
    congrArg x (funext fun d => match d with | ⟨0, _⟩ => rfl | ⟨1, _⟩ => rfl | ⟨2, _⟩ => rfl))

/-- A sum over the middle of three axes. -/
theorem sum_mid {a b c : Nat} (x : FVec Ideal ⟨3, ![a, b, c]⟩ .f32) (acc : BitVec FTy.f32.bits)
    (h : Shape.Reduces ⟨3, ![a, b, c]⟩ [1] ⟨2, ![a, c]⟩) (hφ : FKind.Formats .f32) (hacc : acc = FKind.add.neutral .f32 hφ)
    (i : Fin a) (k : Fin c) :
    multiReduction .add [1] ⟨2, ![a, c]⟩ x acc h hφ hacc (ix2 i k) = ∑ j : Fin b, x (ix3 i j k) :=
  (Ideal.multiReduction_add_single x acc h hφ hacc (ix2 i k)).trans (Finset.sum_congr rfl fun j _ =>
    congrArg x (funext fun d => match d with | ⟨0, _⟩ => rfl | ⟨1, _⟩ => rfl | ⟨2, _⟩ => rfl))

/-- The weight vector spread over a chunk. -/
theorem weights_apply (w : FVec Ideal S768 .f32) (k : Fin 4) (t : Fin 64) (e : Fin 768) :
    broadcastTo S4x64x768 (shapeCast S1x1x768 w shapeCasts_S768_S1x1x768) broadcasts_S1x1x768_S4x64x768 (ix3 k t e)
      = w (ix1 e) := by
  rw [broadcastTo_apply _ _ _ (ix3 (0 : Fin 1) (0 : Fin 1) e)
    (fun d => match d with | ⟨0, _⟩ => rfl | ⟨1, _⟩ => rfl | ⟨2, _⟩ => rfl)]
  refine shapeCast_apply _ _ _ _ ?_
  rw [Shape.rowMajor_val_one, Shape.rowMajor_val_three]
  show e.val = (0 * 1 + 0) * 768 + e.val
  omega

/-- A column of per-token values spread along the features. -/
theorem tokens_apply (x : FVec Ideal S4x64x1 .f32) (k : Fin 4) (t : Fin 64) (e : Fin 768) :
    broadcastTo S4x64x768 x broadcasts_S4x64x1_S4x64x768 (ix3 k t e) = x (ix3 k t (0 : Fin 1)) :=
  broadcastTo_apply _ _ _ _ (fun d => match d with | ⟨0, _⟩ => rfl | ⟨1, _⟩ => rfl | ⟨2, _⟩ => rfl)

/-- Per-token values with a unit axis added. -/
theorem column_apply (x : FVec Ideal S4x64 .f32) (k : Fin 4) (t : Fin 64) (u : Fin 1) :
    shapeCast S4x64x1 x shapeCasts_S4x64_S4x64x1 (ix3 k t u) = x (ix2 k t) := by
  refine shapeCast_apply _ _ _ _ ?_
  rw [Shape.rowMajor_val_two, Shape.rowMajor_val_three]
  show k.val * 64 + t.val = (k.val * 64 + t.val) * 1 + u.val
  omega

/-- A per-group value through a unit axis added and dropped again. -/
theorem unit_apply (x : FVec Ideal S4x1 .f32) (k : Fin 4) (u : Fin 1) :
    shapeCast S4x1 (shapeCast S4x1x1 x shapeCasts_S4x1_S4x1x1) shapeCasts_S4x1x1_S4x1 (ix2 k u) = x (ix2 k u) := by
  rw [shapeCast_apply _ _ _ (ix3 k u (0 : Fin 1)) ?_]
  · refine shapeCast_apply _ _ _ _ ?_
    rw [Shape.rowMajor_val_two, Shape.rowMajor_val_three]
    show k.val * 1 + u.val = (k.val * 1 + u.val) * 1 + 0
    omega
  · rw [Shape.rowMajor_val_two, Shape.rowMajor_val_three]
    show (k.val * 1 + u.val) * 1 + 0 = k.val * 1 + u.val
    omega

/-- A per-group value spread along the features. -/
theorem groups_apply (x : FVec Ideal S4x1 .f32) (k : Fin 4) (e : Fin 768) :
    broadcastTo S4x768 x broadcasts_S4x1_S4x768 (ix2 k e) = x (ix2 k (0 : Fin 1)) :=
  broadcastTo_apply _ _ _ _ (fun d => match d with | ⟨0, _⟩ => rfl | ⟨1, _⟩ => rfl)

/-- The tokens' inner products over a chunk. -/
theorem scores_apply (x : FVec Ideal S4x64x768 .f32) (hφ : FKind.Formats .f32) (hacc : (0x00000000#32 : BitVec FTy.f32.bits) = FKind.add.neutral .f32 hφ)
    (k : Fin 4) (t : Fin 64) :
    multiReduction .add [2] S4x64 x 0x00000000#32 reduces_S4x64x768_S4x64 hφ hacc (ix2 k t) = ∑ e : Fin 768, x (ix3 k t e) :=
  sum_last x _ reduces_S4x64x768_S4x64 hφ hacc k t

/-- The weights' sum over a group's tokens. -/
theorem total_apply (x : FVec Ideal S4x64x1 .f32) (hφ : FKind.Formats .f32) (hacc : (0x00000000#32 : BitVec FTy.f32.bits) = FKind.add.neutral .f32 hφ)
    (k : Fin 4) (u : Fin 1) :
    multiReduction .add [1] S4x1 x 0x00000000#32 reduces_S4x64x1_S4x1 hφ hacc (ix2 k u) = ∑ t : Fin 64, x (ix3 k t u) :=
  sum_mid x _ reduces_S4x64x1_S4x1 hφ hacc k u

/-- The weighted sum over a group's tokens. -/
theorem weighted_apply (x : FVec Ideal S4x64x768 .f32) (hφ : FKind.Formats .f32) (hacc : (0x00000000#32 : BitVec FTy.f32.bits) = FKind.add.neutral .f32 hφ)
    (k : Fin 4) (e : Fin 768) :
    multiReduction .add [1] S4x768 x 0x00000000#32 reduces_S4x64x768_S4x768 hφ hacc (ix2 k e) = ∑ t : Fin 64, x (ix3 k t e) :=
  sum_mid x _ reduces_S4x64x768_S4x768 hφ hacc k e

/-- A slice's leading unit axis dropped. -/
theorem slice_apply (v : FVec Ideal S1x4x64x768 .f32) (k : Fin 4) (t : Fin 64) (e : Fin 768) :
    shapeCast S4x64x768 v shapeCasts_S1x4x64x768_S4x64x768 (ix3 k t e) = v (ix4 (0 : Fin 1) k t e) :=
  shapeCast_1abc_abc_apply v _ k t e

/-! ## A chunk -/

/-- A chunk's weights: `exp` of every token's score, with a unit axis added. -/
def weights (w : FVec Ideal S768 .f32) (v : FVec Ideal S1x4x64x768 .f32) : FVec Ideal S4x64x1 .f32 :=
  exp (shapeCast S4x64x1 (multiReduction .add [2] S4x64
    (mulf (shapeCast S4x64x768 v shapeCasts_S1x4x64x768_S4x64x768)
      (broadcastTo S4x64x768 (shapeCast S1x1x768 w shapeCasts_S768_S1x1x768) broadcasts_S1x1x768_S4x64x768))
    0x00000000#32 reduces_S4x64x768_S4x64 (.inl rfl) rfl) shapeCasts_S4x64_S4x64x1)

/-- One chunk, read at group `k` and feature `e`: that group pooled. -/
theorem chunk_apply (w : FVec Ideal S768 .f32) (v : FVec Ideal S1x4x64x768 .f32) (k : Fin 4) (e : Fin 768) :
    k0_pay1 (F := Ideal) w v (ix2 k e) = group (fun e => w (ix1 e)) (fun t e => v (ix4 (0 : Fin 1) k t e)) e := by
  have hexp : ∀ k t, weights w v (ix3 k t (0 : Fin 1)) = Ideal.exp (dot (fun e => w (ix1 e)) fun e => v (ix4 (0 : Fin 1) k t e)) := by
    intro k t
    refine congrArg Ideal.exp ((column_apply _ k t 0).trans ((scores_apply _ _ _ k t).trans (Finset.sum_congr rfl fun e _ => ?_)))
    rw [mulf_apply, weights_apply, slice_apply]
  refine congrArg₂ (fun a b : EReal => a * b)
    ((weighted_apply (mulf (broadcastTo S4x64x768 (weights w v) broadcasts_S4x64x1_S4x64x768)
      (shapeCast S4x64x768 v shapeCasts_S1x4x64x768_S4x64x768)) (.inl rfl) rfl k e).trans (Finset.sum_congr rfl fun t _ => ?_))
    ((groups_apply _ k e).trans (congrArg₂ Ideal.div Ideal.ofBits_one_f32 ((unit_apply _ k 0).trans
      ((total_apply (weights w v) (.inl rfl) rfl k 0).trans (Finset.sum_congr rfl fun t _ => hexp k t)))))
  rw [mulf_apply, tokens_apply, slice_apply, hexp]

end Cert.Proof.Pool

end
-- ==== Proof.Tail.lean ====
/- The end of the pooling kernel read at an index: thirty-two pooled groups, pooled once more by a softmax over their
   scores; and the whole body of one batch row as a function of its eight chunks. -/
module

public import proofs.«01_k».proof.Proof.Chunk
public import Idealize.ShloMosaic.Lib.Pipeline.Value

@[expose] public section

noncomputable section

namespace Cert.Proof.Pool

open Cert.KernelIdeal Cert.KernelIdeal.Gen
open Idealize.ShloMosaic Idealize.ShloMosaic.ValueIdx
open scoped BigOperators

/-- The largest of the scores of the groups, from minus infinity. -/
def top {n : Nat} (s : Fin n → EReal) : EReal := Finset.univ.fold max ⊥ s

/-- A softmax weight, the exponents taken below the largest score. -/
def softmax {n : Nat} (s : Fin n → EReal) (k : Fin n) : EReal :=
  Ideal.div (Ideal.exp (s k - top s)) (∑ k', Ideal.exp (s k' - top s))

/-- Vectors averaged with the softmax of their scores as weights. -/
def pool {n : Nat} (w : Fin 768 → EReal) (x : Fin n → Fin 768 → EReal) (e : Fin 768) : EReal :=
  ∑ k, softmax (fun k => dot w (x k)) k * x k e

/-! ## The pieces of the last stage -/

/-- The groups' scores, a column. -/
def scores (w : FVec Ideal S768 .f32) (x : FVec Ideal S32x768 .f32) : FVec Ideal S32x1 .f32 :=
  shapeCast S32x1 (multiReduction .add [1] S32
    (mulf x (broadcastTo S32x768 (shapeCast S1x768 w shapeCasts_S768_S1x768) broadcasts_S1x768_S32x768))
    0x00000000#32 reduces_S32x768_S32 (.inl rfl) rfl) shapeCasts_S32_S32x1

/-- The exponentials of a column taken below its largest entry. -/
def shifted (s : FVec Ideal S32x1 .f32) : FVec Ideal S32x1 .f32 :=
  exp (subf s (broadcastTo S32x1 (shapeCast S1x1
    (multiReduction .maximumf [0] S1 s 0xFF800000#32 reduces_S32x1_S1 (.inl rfl) rfl) shapeCasts_S1_S1x1)
    broadcasts_S1x1_S32x1))

/-- A column over its sum. -/
def normalized (p : FVec Ideal S32x1 .f32) : FVec Ideal S32x1 .f32 :=
  divf p (broadcastTo S32x1 (shapeCast S1x1
    (multiReduction .add [0] S1 p 0x00000000#32 reduces_S32x1_S1 (.inl rfl) rfl) shapeCasts_S1_S1x1)
    broadcasts_S1x1_S32x1)

/-- The groups weighted by a column and summed. -/
def averaged (a : FVec Ideal S32x1 .f32) (x : FVec Ideal S32x768 .f32) : FVec Ideal S768 .f32 :=
  multiReduction .add [0] S768 (mulf (broadcastTo S32x768 a broadcasts_S32x1_S32x768) x)
    0x00000000#32 reduces_S32x768_S768 (.inl rfl) rfl

/-- The last stage: from the thirty-two pooled groups to the row stored. -/
def tail (w : FVec Ideal S768 .f32) (x : FVec Ideal S32x768 .f32) : FVec Ideal S1x1x768 .f32 :=
  shapeCast S1x1x768 (shapeCast S1x768 (averaged (normalized (shifted (scores w x))) x) shapeCasts_S768_S1x768)
    shapeCasts_S1x768_S1x1x768

/-- A sum over the second of two axes. -/
theorem sum_row {a b : Nat} (x : FVec Ideal ⟨2, ![a, b]⟩ .f32) (acc : BitVec FTy.f32.bits)
    (h : Shape.Reduces ⟨2, ![a, b]⟩ [1] ⟨1, ![a]⟩) (hφ : FKind.Formats .f32) (hacc : acc = FKind.add.neutral .f32 hφ) (i : Fin a) :
    multiReduction .add [1] ⟨1, ![a]⟩ x acc h hφ hacc (ix1 i) = ∑ j : Fin b, x (ix2 i j) :=
  (Ideal.multiReduction_add_single x acc h hφ hacc (ix1 i)).trans (Finset.sum_congr rfl fun j _ =>
    congrArg x (funext fun d => match d with | ⟨0, _⟩ => rfl | ⟨1, _⟩ => rfl))

/-- A sum over the first of two axes. -/
theorem sum_col {a b : Nat} (x : FVec Ideal ⟨2, ![a, b]⟩ .f32) (acc : BitVec FTy.f32.bits)
    (h : Shape.Reduces ⟨2, ![a, b]⟩ [0] ⟨1, ![b]⟩) (hφ : FKind.Formats .f32) (hacc : acc = FKind.add.neutral .f32 hφ) (j : Fin b) :
    multiReduction .add [0] ⟨1, ![b]⟩ x acc h hφ hacc (ix1 j) = ∑ i : Fin a, x (ix2 i j) :=
  (Ideal.multiReduction_add_single x acc h hφ hacc (ix1 j)).trans (Finset.sum_congr rfl fun i _ =>
    congrArg x (funext fun d => match d with | ⟨0, _⟩ => rfl | ⟨1, _⟩ => rfl))

theorem scores_ix (w : FVec Ideal S768 .f32) (x : FVec Ideal S32x768 .f32) (k : Fin 32) :
    scores w x (ix2 k (0 : Fin 1)) = dot (fun e => w (ix1 e)) (fun e => x (ix2 k e)) := by
  refine (shapeCast_a_a1_apply _ _ k 0).trans ((sum_row _ _ reduces_S32x768_S32 _ _ k).trans ?_)
  refine Finset.sum_congr rfl fun e _ => congrArg (fun y : EReal => x (ix2 k e) * y) ?_
  exact (broadcastTo_1b_ab_apply _ _ k e).trans (shapeCast_a_1a_apply _ _ 0 e)

/-- A column reduced to its one cell and spread back. -/
theorem spread_ix (y : FVec Ideal S1 .f32) (k : Fin 32) :
    broadcastTo S32x1 (shapeCast S1x1 y shapeCasts_S1_S1x1) broadcasts_S1x1_S32x1 (ix2 k (0 : Fin 1)) = y (ix1 (0 : Fin 1)) :=
  (broadcastTo_1b_ab_apply _ _ k (0 : Fin 1)).trans (shapeCast_a_1a_apply _ _ 0 (0 : Fin 1))

/-- The index a column's reduction reads. -/
theorem lift_col (k : Fin 32) : reduces_S32x1_S1.lift (ix1 (0 : Fin 1)) k = ix2 k (0 : Fin 1) :=
  funext fun d => match d with | ⟨0, _⟩ => rfl | ⟨1, _⟩ => rfl

/-- The bit pattern of minus infinity. -/
theorem ofBits_bot : Ideal.ofBits .f32 0xFF800000#32 = (⊥ : EReal) := by
  simp [Ideal.ofBits, Ideal.ieee]

theorem shifted_ix (s : FVec Ideal S32x1 .f32) (k : Fin 32) :
    shifted s (ix2 k (0 : Fin 1)) = Ideal.exp (s (ix2 k (0 : Fin 1)) - top fun k => s (ix2 k (0 : Fin 1))) := by
  refine congrArg (fun y : EReal => Ideal.exp (s (ix2 k (0 : Fin 1)) - y)) ((spread_ix _ k).trans ?_)
  refine (Ideal.multiReduction_maximumf_single _ _ reduces_S32x1_S1 _ _ (ix1 (0 : Fin 1))).trans ?_
  have hf : (s ∘ reduces_S32x1_S1.lift (ix1 (0 : Fin 1))) = fun k : Fin 32 => s (ix2 k (0 : Fin 1)) :=
    funext fun k => congrArg s (lift_col k)
  rw [hf]
  exact congrArg (fun b : EReal => (Finset.univ : Finset (Fin 32)).fold max b fun k => s (ix2 k (0 : Fin 1))) ofBits_bot

theorem normalized_ix (p : FVec Ideal S32x1 .f32) (k : Fin 32) :
    normalized p (ix2 k (0 : Fin 1)) = Ideal.div (p (ix2 k (0 : Fin 1))) (∑ k : Fin 32, p (ix2 k (0 : Fin 1))) := by
  refine congrArg (Ideal.div (p (ix2 k (0 : Fin 1)))) ((spread_ix _ k).trans ?_)
  refine (Ideal.multiReduction_add_single _ _ reduces_S32x1_S1 _ _ (ix1 (0 : Fin 1))).trans ?_
  exact Finset.sum_congr rfl fun k _ => congrArg p (lift_col k)

theorem averaged_ix (a : FVec Ideal S32x1 .f32) (x : FVec Ideal S32x768 .f32) (e : Fin 768) :
    averaged a x (ix1 e) = ∑ k : Fin 32, a (ix2 k (0 : Fin 1)) * x (ix2 k e) := by
  refine (sum_col _ _ reduces_S32x768_S768 _ _ e).trans ?_
  refine Finset.sum_congr rfl fun k _ => congrArg (fun y : EReal => y * x (ix2 k e)) ?_
  exact broadcastTo_apply a _ (ix2 k e) (ix2 k (0 : Fin 1)) (fun d => match d with | ⟨0, _⟩ => rfl | ⟨1, _⟩ => rfl)

/-- The last stage, read at feature `e`: the groups pooled by the softmax of their scores. -/
theorem tail_apply (w : FVec Ideal S768 .f32) (x : FVec Ideal S32x768 .f32) (e : Fin 768) :
    tail w x (ix3 (0 : Fin 1) (0 : Fin 1) e) = pool (fun e => w (ix1 e)) (fun k e => x (ix2 k e)) e := by
  refine (shapeCast_ab_1ab_apply _ _ 0 (0 : Fin 1) e).trans ((shapeCast_a_1a_apply _ _ 0 e).trans ?_)
  refine (averaged_ix _ _ e).trans (Finset.sum_congr rfl fun k _ => ?_)
  rw [normalized_ix]
  simp only [shifted_ix, scores_ix]
  rfl

/-! ## One batch row of the kernel -/

/-- The thirty-two groups of a batch row, joined from eight chunks of four. -/
def joined (f : Fin 8 → FVec Ideal S4x768 .f32) : FVec Ideal S32x768 .f32 :=
  concatenate S32x768 0 [⟨S4x768, f 0⟩, ⟨S4x768, f 1⟩, ⟨S4x768, f 2⟩, ⟨S4x768, f 3⟩, ⟨S4x768, f 4⟩, ⟨S4x768, f 5⟩, ⟨S4x768, f 6⟩,
    ⟨S4x768, f 7⟩] concatenates_S4x768_S4x768_S4x768_S4x768_S4x768_S4x768_S4x768_S4x768_S32x768_d0

/-- Group `k` of the joined chunks is group `k % 4` of chunk `k / 4`. -/
theorem joined_apply (f : Fin 8 → FVec Ideal S4x768 .f32) (k : Fin 32) (e : Fin 768) :
    joined f (ix2 k e) = f ⟨k.val / 4, by omega⟩ (ix2 (⟨k.val % 4, by omega⟩ : Fin 4) e) :=
  concatenate_ofFn_apply (t := S32x768) (s₁ := S4x768) 0 f
    concatenates_S4x768_S4x768_S4x768_S4x768_S4x768_S4x768_S4x768_S4x768_S32x768_d0 rfl 4 rfl (ix2 k e) ⟨k.val / 4, by omega⟩ rfl
    (ix2 (⟨k.val % 4, by omega⟩ : Fin 4) e) rfl (fun b hb => match b with | ⟨0, _⟩ => absurd rfl hb | ⟨1, _⟩ => rfl)

/-- A batch row from the slices of its eight chunks: each chunk pooled, the groups joined, and the last stage. -/
def row (w kw : FVec Ideal S768 .f32) (v : Fin 8 → FVec Ideal S1x4x64x768 .f32) : FVec Ideal S1x1x768 .f32 :=
  tail kw (joined fun n => k0_pay1 w (v n))

/-- The first row the body stores is `row` of its eight slices. -/
theorem first_row (w kw : FVec Ideal S768 .f32) (a b c d e f g h : FVec Ideal S1x4x64x768 .f32) :
    k0_pay14 (k0_pay13 w kw (k0_pay1 w a) (k0_pay2 w b) (k0_pay3 w c) (k0_pay4 w d)
      (k0_pay7 (k0_pay5 e) (k0_pay6 w e)) (k0_pay8 w f) (k0_pay11 w g) (k0_pay12 w g) h) = row w kw ![a, b, c, d, e, f, g, h] := rfl

/-- The second row the body stores is `row` of its eight slices. -/
theorem second_row (w kw : FVec Ideal S768 .f32) (a b c d e f g h : FVec Ideal S1x4x64x768 .f32) :
    k0_pay27 w kw (k0_pay15 w a) (k0_pay16 w b) (k0_pay17 w c) (k0_pay18 w d)
      (k0_pay21 (k0_pay19 e) (k0_pay20 w e)) (k0_pay22 w f) (k0_pay25 w g) (k0_pay26 w g) h = row w kw ![a, b, c, d, e, f, g, h] := rfl

/-- A batch row, read at feature `e`: the thirty-two groups, each pooled over its tokens, pooled by the softmax of their
    scores. -/
theorem row_apply (w kw : FVec Ideal S768 .f32) (v : Fin 8 → FVec Ideal S1x4x64x768 .f32) (e : Fin 768) :
    row w kw v (ix3 (0 : Fin 1) (0 : Fin 1) e)
      = pool (fun e => kw (ix1 e)) (fun (k : Fin 32) e => group (fun e => w (ix1 e))
          (fun t e => v ⟨k.val / 4, by omega⟩ (ix4 (0 : Fin 1) (⟨k.val % 4, by omega⟩ : Fin 4) t e)) e) e := by
  unfold row
  rw [tail_apply]
  simp only [joined_apply, chunk_apply]

end Cert.Proof.Pool

end
-- ==== Proof.Rows.lean ====
/- The pooling kernel's block read at an index: the two batch rows a point stores, each from the thirty-two groups that lie
   in the point's two input blocks, sixteen in each. -/
module

public import proofs.«01_k».proof.Proof.Tail
public import proofs.«01_k».proof.Proof.Gen.KernelIdeal.Frame

@[expose] public section

set_option maxRecDepth 16384

noncomputable section

namespace Cert.Proof.Pool

open Cert.KernelIdeal Cert.KernelIdeal.Gen
open Idealize.ShloMosaic Idealize.ShloMosaic.ValueIdx
open scoped BigOperators

/-- Batch row `b` of two blocks of sixteen groups, laid end to end. -/
def rows (x0 x1 : FVec Ideal S2x16x64x768 .f32) (b : Fin 2) (k : Fin 32) (t : Fin 64) (e : Fin 768) : EReal :=
  if h : k.val < 16 then x0 (ix4 b (⟨k.val, h⟩ : Fin 16) t e) else x1 (ix4 b (⟨k.val - 16, by omega⟩ : Fin 16) t e)

/-- A batch row pooled: every group over its tokens, then the groups by the softmax of their scores. -/
def pooled (w kw : Fin 768 → EReal) (x : Fin 32 → Fin 64 → Fin 768 → EReal) (e : Fin 768) : EReal :=
  pool kw (fun k e => group w (x k) e) e

/-- A slice of four groups, loaded at batch row `b` from group `o` on, lies in the first block. -/
theorem slice_lo (x0 x1 : FVec Ideal S2x16x64x768 .f32) (b : Fin 2) (o : Nat) (ho : o + 4 ≤ 16)
    (inb : ∀ a, (![b.val, o, 0, 0] : Fin 4 → Nat) a + S1x4x64x768.size a ≤ S2x16x64x768.size a) (j : Fin 4) (t : Fin 64) (e : Fin 768) :
    View.ld (Val := Elt Ideal) (e' := .f32) x0 (Rect.unit (s := S2x16x64x768) ![b.val, o, 0, 0] S1x4x64x768.size inb) (ix4 (0 : Fin 1) j t e)
      = rows x0 x1 b ⟨o + j.val, by omega⟩ t e := by
  unfold rows
  rw [dif_pos (show o + j.val < 16 by omega)]
  refine congrArg x0 (funext fun a => Fin.ext ?_)
  match a with
  | ⟨0, _⟩ => show b.val + 1 * 0 = b.val; omega
  | ⟨1, _⟩ => show o + 1 * j.val = o + j.val; omega
  | ⟨2, _⟩ => show 0 + 1 * t.val = t.val; omega
  | ⟨3, _⟩ => show 0 + 1 * e.val = e.val; omega

/-- The same slice of the second block holds the groups sixteen further on. -/
theorem slice_hi (x0 x1 : FVec Ideal S2x16x64x768 .f32) (b : Fin 2) (o : Nat) (ho : o + 4 ≤ 16)
    (inb : ∀ a, (![b.val, o, 0, 0] : Fin 4 → Nat) a + S1x4x64x768.size a ≤ S2x16x64x768.size a) (j : Fin 4) (t : Fin 64) (e : Fin 768) :
    View.ld (Val := Elt Ideal) (e' := .f32) x1 (Rect.unit (s := S2x16x64x768) ![b.val, o, 0, 0] S1x4x64x768.size inb) (ix4 (0 : Fin 1) j t e)
      = rows x0 x1 b ⟨16 + o + j.val, by omega⟩ t e := by
  unfold rows
  rw [dif_neg (show ¬ 16 + o + j.val < 16 by omega)]
  refine congrArg x1 (funext fun a => Fin.ext ?_)
  match a with
  | ⟨0, _⟩ => show b.val + 1 * 0 = b.val; omega
  | ⟨1, _⟩ => show o + 1 * j.val = 16 + o + j.val - 16; omega
  | ⟨2, _⟩ => show 0 + 1 * t.val = t.val; omega
  | ⟨3, _⟩ => show 0 + 1 * e.val = e.val; omega

/-- A stored row whose eight slices are the groups in order is that batch row pooled. -/
theorem row_eq (w kw : FVec Ideal S768 .f32) (v : Fin 8 → FVec Ideal S1x4x64x768 .f32) (X : Fin 32 → Fin 64 → Fin 768 → EReal)
    (hv : ∀ (n : Fin 8) (j : Fin 4) (t : Fin 64) (e : Fin 768),
      v n (ix4 (0 : Fin 1) j t e) = X ⟨4 * n.val + j.val, by omega⟩ t e) (e : Fin 768) :
    row w kw v (ix3 (0 : Fin 1) (0 : Fin 1) e) = pooled (fun e => w (ix1 e)) (fun e => kw (ix1 e)) X e := by
  rw [row_apply]
  have hk : ∀ k : Fin 32, (⟨4 * (k.val / 4) + k.val % 4, by omega⟩ : Fin 32) = k := fun k => Fin.ext (by
    show 4 * (k.val / 4) + k.val % 4 = k.val
    omega)
  simp only [hv, hk]
  rfl

/-- The first row stored: batch row 0 pooled. -/
theorem first_piece (x0 x1 : FVec Ideal S2x16x64x768 .f32) (w kw : FVec Ideal S768 .f32) (e : Fin 768) :
    k0_pay14 (k0_pay13 w kw (k0_pay1 w (View.ld (Val := Elt Ideal) (e' := .f32) x0 r0_1)) (k0_pay2 w (View.ld (Val := Elt Ideal) (e' := .f32) x0 r0_2))
      (k0_pay3 w (View.ld (Val := Elt Ideal) (e' := .f32) x0 r0_3)) (k0_pay4 w (View.ld (Val := Elt Ideal) (e' := .f32) x0 r0_4))
      (k0_pay7 (k0_pay5 (View.ld (Val := Elt Ideal) (e' := .f32) x1 r0_1)) (k0_pay6 w (View.ld (Val := Elt Ideal) (e' := .f32) x1 r0_1)))
      (k0_pay8 w (View.ld (Val := Elt Ideal) (e' := .f32) x1 r0_2)) (k0_pay11 w (View.ld (Val := Elt Ideal) (e' := .f32) x1 r0_3))
      (k0_pay12 w (View.ld (Val := Elt Ideal) (e' := .f32) x1 r0_3)) (View.ld (Val := Elt Ideal) (e' := .f32) x1 r0_4)) (ix3 (0 : Fin 1) (0 : Fin 1) e)
      = pooled (fun e => w (ix1 e)) (fun e => kw (ix1 e)) (rows x0 x1 0) e := by
  refine (congrFun (first_row w kw _ _ _ _ _ _ _ _) (ix3 (0 : Fin 1) (0 : Fin 1) e)).trans (row_eq w kw _ (rows x0 x1 0) ?_ e)
  intro n j t e
  match n with
  | ⟨0, _⟩ => exact slice_lo x0 x1 0 0 (by omega) _ j t e
  | ⟨1, _⟩ => exact slice_lo x0 x1 0 4 (by omega) _ j t e
  | ⟨2, _⟩ => exact slice_lo x0 x1 0 8 (by omega) _ j t e
  | ⟨3, _⟩ => exact slice_lo x0 x1 0 12 (by omega) _ j t e
  | ⟨4, _⟩ => exact slice_hi x0 x1 0 0 (by omega) _ j t e
  | ⟨5, _⟩ => exact slice_hi x0 x1 0 4 (by omega) _ j t e
  | ⟨6, _⟩ => exact slice_hi x0 x1 0 8 (by omega) _ j t e
  | ⟨7, _⟩ => exact slice_hi x0 x1 0 12 (by omega) _ j t e

/-- The second row stored: batch row 1 pooled. -/
theorem second_piece (x0 x1 : FVec Ideal S2x16x64x768 .f32) (w kw : FVec Ideal S768 .f32) (e : Fin 768) :
    k0_pay27 w kw (k0_pay15 w (View.ld (Val := Elt Ideal) (e' := .f32) x0 r0_6)) (k0_pay16 w (View.ld (Val := Elt Ideal) (e' := .f32) x0 r0_7))
      (k0_pay17 w (View.ld (Val := Elt Ideal) (e' := .f32) x0 r0_8)) (k0_pay18 w (View.ld (Val := Elt Ideal) (e' := .f32) x0 r0_9))
      (k0_pay21 (k0_pay19 (View.ld (Val := Elt Ideal) (e' := .f32) x1 r0_6)) (k0_pay20 w (View.ld (Val := Elt Ideal) (e' := .f32) x1 r0_6)))
      (k0_pay22 w (View.ld (Val := Elt Ideal) (e' := .f32) x1 r0_7)) (k0_pay25 w (View.ld (Val := Elt Ideal) (e' := .f32) x1 r0_8))
      (k0_pay26 w (View.ld (Val := Elt Ideal) (e' := .f32) x1 r0_8)) (View.ld (Val := Elt Ideal) (e' := .f32) x1 r0_9) (ix3 (0 : Fin 1) (0 : Fin 1) e)
      = pooled (fun e => w (ix1 e)) (fun e => kw (ix1 e)) (rows x0 x1 1) e := by
  refine (congrFun (second_row w kw _ _ _ _ _ _ _ _) (ix3 (0 : Fin 1) (0 : Fin 1) e)).trans (row_eq w kw _ (rows x0 x1 1) ?_ e)
  intro n j t e
  match n with
  | ⟨0, _⟩ => exact slice_lo x0 x1 1 0 (by omega) _ j t e
  | ⟨1, _⟩ => exact slice_lo x0 x1 1 4 (by omega) _ j t e
  | ⟨2, _⟩ => exact slice_lo x0 x1 1 8 (by omega) _ j t e
  | ⟨3, _⟩ => exact slice_lo x0 x1 1 12 (by omega) _ j t e
  | ⟨4, _⟩ => exact slice_hi x0 x1 1 0 (by omega) _ j t e
  | ⟨5, _⟩ => exact slice_hi x0 x1 1 4 (by omega) _ j t e
  | ⟨6, _⟩ => exact slice_hi x0 x1 1 8 (by omega) _ j t e
  | ⟨7, _⟩ => exact slice_hi x0 x1 1 12 (by omega) _ j t e

/-- A row stored at batch row `b` of the block agrees with a function of the block's index when it does at every feature. -/
theorem piece_of (b : Fin 2) (inb : ∀ a, (![b.val, 0, 0] : Fin 3 → Nat) a + S1x1x768.size a ≤ S2x1x768.size a)
    (p : FVec Ideal S1x1x768 .f32) (g : Fin 2 → Fin 768 → EReal) (h : ∀ e, p (ix3 (0 : Fin 1) (0 : Fin 1) e) = g b e)
    (x : S1x1x768.Idx) :
    p x = (fun y : S2x1x768.Idx => g (y 0) (y 2)) ((Rect.unit (s := S2x1x768) ![b.val, 0, 0] S1x1x768.size inb).emb x) := by
  obtain ⟨a0, a1, e, rfl⟩ : ∃ (a0 a1 : Fin 1) (e : Fin 768), x = ix3 a0 a1 e := ⟨x 0, x 1, x 2, eq_ix3 x⟩
  obtain rfl : a0 = 0 := Subsingleton.elim _ _
  obtain rfl : a1 = 0 := Subsingleton.elim _ _
  have he : (Rect.unit (s := S2x1x768) ![b.val, 0, 0] S1x1x768.size inb).emb (ix3 (0 : Fin 1) (0 : Fin 1) e) = ix3 b (0 : Fin 1) e :=
    funext fun a => Fin.ext (by
      match a with
      | ⟨0, _⟩ => show b.val + 1 * 0 = b.val; omega
      | ⟨1, _⟩ => rfl
      | ⟨2, _⟩ => show 0 + 1 * e.val = e.val; omega)
  rw [h, he]

/-- What the body leaves in its result block: batch row `b` of its two input blocks, pooled. -/
theorem block_apply (x0 x1 : FVec Ideal S2x16x64x768 .f32) (w kw : FVec Ideal S768 .f32) (b : Fin 2) (u : Fin 1) (e : Fin 768) :
    out0_4 (F := Ideal) x0 x1 w kw (ix3 b u e) = pooled (fun e => w (ix1 e)) (fun e => kw (ix1 e)) (rows x0 x1 b) e := by
  have hz : (![0] : Fin 1 → Nat) = fun _ => 0 := funext fun a => match a with | ⟨0, _⟩ => rfl
  unfold out0_4
  rw [View.ld_unit_zero (S := S768) hz, View.ld_unit_zero (S := S768) hz]
  refine View.canon_apply_of_pieces (Val := Elt Ideal) (e := .f32)
    (fun y : S2x1x768.Idx => pooled (fun e => w (ix1 e)) (fun e => kw (ix1 e)) (rows x0 x1 (y 0)) (y 2)) _ ?_ (ix3 b u e) (cover0_4 _ _ _)
  intro p hp
  rcases List.mem_cons.1 hp with rfl | hp
  · exact piece_of 1 inb_S2x1x768_S1x1x768_1_0_0 _ (fun b => pooled (fun e => w (ix1 e)) (fun e => kw (ix1 e)) (rows x0 x1 b))
      (second_piece x0 x1 w kw)
  · rcases List.mem_singleton.1 hp with rfl
    exact piece_of 0 inb_S2x1x768_S1x1x768_0_0_0 _ (fun b => pooled (fun e => w (ix1 e)) (fun e => kw (ix1 e)) (rows x0 x1 b))
      (first_piece x0 x1 w kw)

end Cert.Proof.Pool

end
-- ==== Proof.Pooled.lean ====
/- The array the pooling kernel leaves: point `t` writes batch rows `2t` and `2t + 1`, each pooled from the whole of its
   tokens, and the thirty-two points' blocks tile the array. -/
module

public import proofs.«01_k».proof.Proof.Rows
public import proofs.«01_k».proof.Proof.Gen.KernelIdeal.Points
public import Idealize.ShloMosaic.Lib.Pipeline.ValueKit.Geometry

@[expose] public section

set_option maxRecDepth 16384

noncomputable section

namespace Cert.Proof.Pool

open Cert.KernelIdeal Cert.KernelIdeal.Gen
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- Where each window's block lies at point `t`. -/
theorem index0 (t : Fin grid0.N) :
    (win0_0.index t 0 = t.val ∧ win0_0.index t 1 = 0 ∧ win0_0.index t 2 = 0 ∧ win0_0.index t 3 = 0)
      ∧ (win0_1.index t 0 = t.val ∧ win0_1.index t 1 = 1 ∧ win0_1.index t 2 = 0 ∧ win0_1.index t 3 = 0)
      ∧ win0_2.index t 0 = 0 ∧ win0_3.index t 0 = 0
      ∧ (win0_4.index t 0 = t.val ∧ win0_4.index t 1 = 0 ∧ win0_4.index t 2 = 0) := by
  revert t
  decide +kernel

/-- What the result array is shown to hold: every batch row pooled. -/
def pooledArray (X : S64x32x64x768.Idx → EReal) (w kw : S768.Idx → EReal) (i : S64x1x768.Idx) : EReal :=
  pooled (fun e => w (ix1 e)) (fun e => kw (ix1 e)) (fun k t e => X (ix4 (i 0) k t e)) (i 2)

/-- An index one of the windows' blocks places in its array, from its coordinates. -/
theorem rect_emb_eq {G : Pipeline.Grid} (w : Pipeline.Window sig G) (t : Fin G.N) (y : (w.xblock (G.coords t)).Idx) (i : w.shape.Idx)
    (hk : w.kind = .blocked)
    (h : ∀ a, w.index t a * w.size a + (y a).val = (i a).val) : (w.rect t).emb y = i :=
  funext fun a => Fin.ext ((Pipeline.Window.rect_emb_val w t y a hk).trans (h a))

/-- The batch row that row `b` of point `t`'s blocks is. -/
def batchRow (t : Fin grid0.N) (b : Fin 2) : Fin 64 :=
  ⟨2 * t.val + b.val, by have := t.isLt; have hN : grid0.N = 32 := N_0; omega⟩

theorem block_tokens_lo (c : Dev nD) (t : Fin cfg0.N) (b : Fin 2) (k : Fin 16) (u : Fin 64) (e : Fin 768) :
    iblk0 V c 0 t (ix4 b k u e) = V c main_arg0 (ix4 (batchRow t b) (⟨k.val, by omega⟩ : Fin 32) u e) := by
  obtain ⟨⟨h0, h1, h2, h3⟩, -⟩ := index0 t
  refine congrArg (V c main_arg0) (rect_emb_eq win0_0 t _ _ rfl fun a => ?_)
  match a with
  | ⟨0, _⟩ => show win0_0.index t 0 * 2 + b.val = 2 * t.val + b.val; rw [h0]; omega
  | ⟨1, _⟩ => show win0_0.index t 1 * 16 + k.val = k.val; rw [h1]; omega
  | ⟨2, _⟩ => show win0_0.index t 2 * 64 + u.val = u.val; rw [h2]; omega
  | ⟨3, _⟩ => show win0_0.index t 3 * 768 + e.val = e.val; rw [h3]; omega

theorem block_tokens_hi (c : Dev nD) (t : Fin cfg0.N) (b : Fin 2) (k : Fin 16) (u : Fin 64) (e : Fin 768) :
    iblk0 V c 1 t (ix4 b k u e) = V c main_arg0 (ix4 (batchRow t b) (⟨16 + k.val, by omega⟩ : Fin 32) u e) := by
  obtain ⟨-, ⟨h0, h1, h2, h3⟩, -⟩ := index0 t
  refine congrArg (V c main_arg0) (rect_emb_eq win0_1 t _ _ rfl fun a => ?_)
  match a with
  | ⟨0, _⟩ => show win0_1.index t 0 * 2 + b.val = 2 * t.val + b.val; rw [h0]; omega
  | ⟨1, _⟩ => show win0_1.index t 1 * 16 + k.val = 16 + k.val; rw [h1]
  | ⟨2, _⟩ => show win0_1.index t 2 * 64 + u.val = u.val; rw [h2]; omega
  | ⟨3, _⟩ => show win0_1.index t 3 * 768 + e.val = e.val; rw [h3]; omega

theorem block_w (c : Dev nD) (t : Fin cfg0.N) (e : Fin 768) : iblk0 V c 2 t (ix1 e) = V c main_arg3 (ix1 e) := by
  obtain ⟨-, -, h, -⟩ := index0 t
  refine congrArg (V c main_arg3) (rect_emb_eq win0_2 t _ _ rfl fun a => ?_)
  match a with
  | ⟨0, _⟩ => show win0_2.index t 0 * 768 + e.val = e.val; rw [h]; omega

theorem block_kw (c : Dev nD) (t : Fin cfg0.N) (e : Fin 768) : iblk0 V c 3 t (ix1 e) = V c main_arg4 (ix1 e) := by
  obtain ⟨-, -, -, h, -⟩ := index0 t
  refine congrArg (V c main_arg4) (rect_emb_eq win0_3 t _ _ rfl fun a => ?_)
  match a with
  | ⟨0, _⟩ => show win0_3.index t 0 * 768 + e.val = e.val; rw [h]; omega

/-- The two blocks of a point, laid end to end, are a batch row's thirty-two groups. -/
theorem rows_eq (c : Dev nD) (t : Fin cfg0.N) (b : Fin 2) :
    rows (iblk0 V c 0 t) (iblk0 V c 1 t) b = fun k u e => V c main_arg0 (ix4 (batchRow t b) k u e) := by
  funext k u e
  unfold rows
  split
  · exact block_tokens_lo V c t b _ u e
  · refine (block_tokens_hi V c t b _ u e).trans (congrArg (fun k => V c main_arg0 (ix4 (batchRow t b) k u e)) (Fin.ext ?_))
    show 16 + (k.val - 16) = k.val
    omega

/-- What a point leaves in its result block. -/
theorem after_pooled (c : Dev nD) (t : Fin cfg0.N) (b : Fin 2) (u : Fin 1) (e : Fin 768) :
    out0_4 (F := Ideal) (iblk0 V c 0 t) (iblk0 V c 1 t) (iblk0 V c 2 t) (iblk0 V c 3 t) (ix3 b u e)
      = pooledArray (V c main_arg0) (V c main_arg3) (V c main_arg4) (ix3 (batchRow t b) u e) := by
  rw [block_apply, rows_eq]
  have hw : (fun e => iblk0 V c 2 t (ix1 e)) = fun e => V c main_arg3 (ix1 e) := funext (block_w V c t)
  have hk : (fun e => iblk0 V c 3 t (ix1 e)) = fun e => V c main_arg4 (ix1 e) := funext (block_kw V c t)
  exact congrArg₂ (fun w kw => pooled w kw (fun k u e => V c main_arg0 (ix4 (batchRow t b) k u e)) e) hw hk

/-- The pooling kernel's result array: every batch row pooled. -/
theorem arrAt_pooled (c : Dev nD) :
    (dat0 V c).arrAt 4 cfg0.N = pooledArray (V c main_arg0) (V c main_arg3) (V c main_arg4) := by
  refine (dat0 V c).arrAt_eq_of_covers 4 _ (by decide +kernel) fun t hf y => ?_
  obtain ⟨-, -, -, -, h0, h1, h2⟩ := index0 t
  blk_simp
  rw [after0_4]
  obtain ⟨b, u, e, rfl⟩ : ∃ (b : Fin 2) (u : Fin 1) (e : Fin 768), y = ix3 b u e := ⟨y 0, y 1, y 2, eq_ix3 y⟩
  refine (after_pooled V c t b u e).trans (congrArg (pooledArray _ _ _) (rect_emb_eq win0_4 t _ _ rfl fun a => ?_).symm)
  match a with
  | ⟨0, _⟩ => show win0_4.index t 0 * 2 + b.val = 2 * t.val + b.val; rw [h0]; omega
  | ⟨1, _⟩ => show win0_4.index t 1 * 1 + u.val = u.val; rw [h1]; omega
  | ⟨2, _⟩ => show win0_4.index t 2 * 768 + e.val = e.val; rw [h2]; omega

end Cert.Proof.Pool

end
-- ==== Proof.Mlp.lean ====
/- The two dense layers: the second kernel's result array, and the kernel program's result as a function of its
   arguments. -/
module

public import proofs.«01_k».proof.Proof.Pooled
public import Idealize.ShloMosaic.Lib.MatmulPlain

@[expose] public section

set_option maxRecDepth 16384

noncomputable section

namespace Cert.Proof.Pool

open Cert.KernelIdeal Cert.KernelIdeal.Gen
open Idealize.ShloMosaic Idealize.ShloMosaic.ValueIdx Idealize.ShloMosaic.TcCoe
open Idealize.ShloMosaic.Pipeline (Dat)
open scoped BigOperators

/-- A unit of the hidden layer: an affine form of the features, cut off below at zero. -/
def hidden (p : Fin 768 → EReal) (w : S768x1024.Idx → EReal) (b : S1024.Idx → EReal) (j : Fin 1024) : EReal :=
  max ((∑ e, p e * w (ix2 e j)) + b (ix1 j)) 0

/-- An output of the second layer, its weight for hidden unit `j` at `w j`. -/
def head (h : Fin 1024 → EReal) (w : Fin 1024 → EReal) (b : EReal) : EReal := (∑ j, h j * w j) + b

/-! ## The body -/

/-- The hidden layer of the sixty-four rows. -/
def layer (p : FVec Ideal S64x1x768 .f32) (w : FVec Ideal S768x1024 .f32) (b : FVec Ideal S1024 .f32) : FVec Ideal S64x1024 .f32 :=
  maximumf
    (addf
      (matmul dot_S64x768_S768x1024_S64x1024_1_0_0_1_n_n none (shapeCast S64x768 p shapeCasts_S64x1x768_S64x768) w
        (constant S64x1024 .f32 0x00000000#32))
      (broadcastTo S64x1024 (shapeCast S1x1024 b shapeCasts_S1024_S1x1024) broadcasts_S1x1024_S64x1024))
    (broadcast S64x1024 (Scalar.ofBits .f32 0x00000000#32))

theorem squeeze_apply (p : FVec Ideal S64x1x768 .f32) (i : Fin 64) (e : Fin 768) :
    shapeCast S64x768 p shapeCasts_S64x1x768_S64x768 (ix2 i e) = p (ix3 i (0 : Fin 1) e) := by
  refine shapeCast_apply _ _ _ _ ?_
  rw [Shape.rowMajor_val_two, Shape.rowMajor_val_three]
  show (i.val * 1 + 0) * 768 + e.val = i.val * 768 + e.val
  omega

theorem layer_ix (p : FVec Ideal S64x1x768 .f32) (w : FVec Ideal S768x1024 .f32) (b : FVec Ideal S1024 .f32) (i : Fin 64) (j : Fin 1024) :
    layer p w b (ix2 i j) = hidden (fun e => p (ix3 i (0 : Fin 1) e)) w b j := by
  refine congrArg₂ max (congrArg₂ (· + ·) ?_ ?_) Ideal.ofBits_zero_f32
  · refine (Ideal.matmul_plain_apply none _ _ _ i j).trans ?_
    refine (congrArg₂ (· + ·) Ideal.ofBits_zero_f32 (Finset.sum_congr rfl fun e _ =>
      congrArg (fun y : EReal => y * w (ix2 e j)) (squeeze_apply p i e))).trans (zero_add _)
  · exact (broadcastTo_1b_ab_apply _ _ i j).trans (shapeCast_a_1a_apply _ _ 0 j)

/-- The second layer, the rows across. -/
def outputs (h : FVec Ideal S64x1024 .f32) (w : FVec Ideal S20x1024 .f32) (b : FVec Ideal S20 .f32) : FVec Ideal S64x20 .f32 :=
  addf
    (matmul dot_S64x1024_S20x1024_S64x20_1_1_0_0_n_n none h (shapeCast S20x1024 w shapeCasts_S20x1024_S20x1024)
      (constant S64x20 .f32 0x00000000#32))
    (broadcastTo S64x20 (shapeCast S1x20 b shapeCasts_S20_S1x20) broadcasts_S1x20_S64x20)

theorem payload_ix (p : FVec Ideal S64x1x768 .f32) (w : FVec Ideal S768x1024 .f32) (b : FVec Ideal S1024 .f32)
    (w' : FVec Ideal S20x1024 .f32) (b' : FVec Ideal S20 .f32) (n : Fin 20) (i : Fin 64) :
    k1_pay1 (F := Ideal) p w b w' b' (ix2 n i)
      = head (hidden (fun e => p (ix3 i (0 : Fin 1) e)) w b) (fun j => w' (ix2 n j)) (b' (ix1 n)) := by
  refine (transpose_ix2_apply (outputs (layer p w b) w' b') transposes_S64x20_p1_0_S20x64 n i).trans (congrArg₂ (· + ·) ?_ ?_)
  · refine (Ideal.matmul_transposedRhs_apply none (layer p w b) (shapeCast S20x1024 w' shapeCasts_S20x1024_S20x1024) _ i n).trans ?_
    refine (congrArg₂ (· + ·) Ideal.ofBits_zero_f32 (Finset.sum_congr rfl fun j _ => ?_)).trans (zero_add _)
    exact congrArg₂ (fun x y : EReal => x * y) (layer_ix p w b i j) (shapeCast_apply _ _ _ _ rfl)
  · exact (broadcastTo_1b_ab_apply _ _ i n).trans (shapeCast_a_1a_apply _ _ 0 n)

/-! ## The region -/

section Region

variable (V : (c : Dev nD) → (b : Ref sig .tc) → Buf (Elt Ideal) ((c : Thread nD τ).loc b))

theorem index1 (t : Fin grid1.N) :
    (∀ a, win1_0.index t a = 0) ∧ (∀ a, win1_1.index t a = 0) ∧ (∀ a, win1_2.index t a = 0) ∧ (∀ a, win1_3.index t a = 0)
      ∧ (∀ a, win1_4.index t a = 0) ∧ (∀ a, win1_5.index t a = 0) := by
  rw [fin_N1 t]
  decide +kernel

theorem whole_p (c : Dev nD) (t : Fin cfg1.N) : iblk1 V c 0 t = V c main_v0 :=
  funext fun y => congrArg (V c main_v0) (rect_emb_eq win1_0 t y y rfl fun a => by rw [(index1 t).1 a, Nat.zero_mul, Nat.zero_add])

theorem whole_w (c : Dev nD) (t : Fin cfg1.N) : iblk1 V c 1 t = V c main_arg5 :=
  funext fun y => congrArg (V c main_arg5) (rect_emb_eq win1_1 t y y rfl fun a => by rw [(index1 t).2.1 a, Nat.zero_mul, Nat.zero_add])

theorem whole_b (c : Dev nD) (t : Fin cfg1.N) : iblk1 V c 2 t = V c main_arg6 :=
  funext fun y => congrArg (V c main_arg6) (rect_emb_eq win1_2 t y y rfl fun a => by rw [(index1 t).2.2.1 a, Nat.zero_mul, Nat.zero_add])

theorem whole_w' (c : Dev nD) (t : Fin cfg1.N) : iblk1 V c 3 t = V c main_v1 :=
  funext fun y => congrArg (V c main_v1) (rect_emb_eq win1_3 t y y rfl fun a => by rw [(index1 t).2.2.2.1 a, Nat.zero_mul, Nat.zero_add])

theorem whole_b' (c : Dev nD) (t : Fin cfg1.N) : iblk1 V c 4 t = V c main_arg8 :=
  funext fun y => congrArg (V c main_arg8) (rect_emb_eq win1_4 t y y rfl fun a => by rw [(index1 t).2.2.2.2.1 a, Nat.zero_mul, Nat.zero_add])

theorem out_eq (x0 : FVec Ideal S64x1x768 .f32) (x1 : FVec Ideal S768x1024 .f32) (x2 : FVec Ideal S1024 .f32)
    (x3 : FVec Ideal S20x1024 .f32) (x4 : FVec Ideal S20 .f32) :
    out1_5 (F := Ideal) x0 x1 x2 x3 x4 = k1_pay1 (F := Ideal) x0 x1 x2 x3 x4 := by
  have z1 : (![0] : Fin 1 → Nat) = fun _ => 0 := funext fun a => match a with | ⟨0, _⟩ => rfl
  have z2 : (![0, 0] : Fin 2 → Nat) = fun _ => 0 := funext fun a => match a with | ⟨0, _⟩ => rfl | ⟨1, _⟩ => rfl
  have z3 : (![0, 0, 0] : Fin 3 → Nat) = fun _ => 0 := funext fun a => match a with | ⟨0, _⟩ => rfl | ⟨1, _⟩ => rfl | ⟨2, _⟩ => rfl
  unfold out1_5
  rw [View.canon_unit_zero z2, View.ld_unit_zero (S := S64x1x768) z3, View.ld_unit_zero (S := S768x1024) z2,
    View.ld_unit_zero (S := S1024) z1, View.ld_unit_zero (S := S20x1024) z2, View.ld_unit_zero (S := S20) z1]

/-- The second kernel's result array. -/
theorem arrAt_layers (c : Dev nD) :
    (dat1 V c).arrAt 5 cfg1.N = k1_pay1 (F := Ideal) (V c main_v0) (V c main_arg5) (V c main_arg6) (V c main_v1) (V c main_arg8) := by
  refine (dat1 V c).arrAt_eq_of_covers 5 _ (by decide +kernel) fun t hf y => ?_
  blk_simp
  rw [after1_5, out_eq, whole_p, whole_w, whole_b, whole_w', whole_b']
  refine congrArg (k1_pay1 (F := Ideal) (V c main_v0) (V c main_arg5) (V c main_arg6) (V c main_v1) (V c main_arg8))
    (rect_emb_eq win1_5 t y y rfl fun a => ?_).symm
  rw [(index1 t).2.2.2.2.2 a, Nat.zero_mul, Nat.zero_add]

end Region

/-! ## The program -/

/-- The kernel program's result, from its arguments. -/
def result (x : S64x32x64x768.Idx → EReal) (w kw : S768.Idx → EReal) (w1 : S768x1024.Idx → EReal) (b1 : S1024.Idx → EReal)
    (w2 : S1024x20.Idx → EReal) (b2 : S20.Idx → EReal) (i : Fin 64) (n : Fin 20) : EReal :=
  head (hidden (pooled (fun e => w (ix1 e)) (fun e => kw (ix1 e)) (fun k t e => x (ix4 i k t e))) w1 b1)
    (fun j => w2 (ix2 j n)) (b2 (ix1 n))

variable (m : (ℓ : Loc nD τ sig) → Buf (Elt Ideal) ℓ) (ρ : Dev nD → PrngReg)

theorem entry_p (c : Dev nD) : V2 m ρ c main_v0
    = pooledArray (m ((c : Thread nD τ).loc main_arg0)) (m ((c : Thread nD τ).loc main_arg3)) (m ((c : Thread nD τ).loc main_arg4)) :=
  (W2_of m ρ c main_v0 (by decide)).trans ((W1_arr m ρ c 4).trans (arrAt_pooled (V0 m ρ) c))

theorem entry_w' (c : Dev nD) : V2 m ρ c main_v1
    = transpose S20x1024 [1, 0] (m ((c : Thread nD τ).loc main_arg7)) transposes_S1024x20_S20x1024_1_0 := by
  show StableHlo.after hostOps1 (W1 m ρ c) (Proc.devRef .tc main_v1) = _
  rw [StableHlo.after_cons, StableHlo.after_nil, StableHlo.unary_result]
  exact congrArg (fun x => transpose S20x1024 [1, 0] x transposes_S1024x20_S20x1024_1_0) (W1_args m ρ c main_arg7 (by decide))

/-- The kernel program's result array holds `result` of its arguments. -/
theorem kernel_value (c : Dev nD) (i : Fin 64) (n : Fin 20) :
    W4 m ρ c (Proc.devRef .tc main_v3) (ix2 i n)
      = result (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) i n := by
  have h3 : W4 m ρ c (Proc.devRef .tc main_v3)
      = transpose S64x20 [1, 0] (W3 m ρ c (Proc.devRef .tc main_v2)) transposes_S20x64_S64x20_1_0 := by
    show StableHlo.after hostOps2 (W3 m ρ c) (Proc.devRef .tc main_v3) = _
    rw [StableHlo.after_cons, StableHlo.after_nil, StableHlo.unary_result]
  have h2 : W3 m ρ c (Proc.devRef .tc main_v2) = _ := (W3_arr m ρ c 5).trans (arrAt_layers (V2 m ρ) c)
  rw [h3, h2]
  refine (transpose_ix2_apply _ _ i n).trans ((payload_ix _ _ _ _ _ n i).trans ?_)
  have e5 : V2 m ρ c main_arg5 = m ((c : Thread nD τ).loc main_arg5) := W2_args m ρ c main_arg5 (by decide)
  have e6 : V2 m ρ c main_arg6 = m ((c : Thread nD τ).loc main_arg6) := W2_args m ρ c main_arg6 (by decide)
  have e8 : V2 m ρ c main_arg8 = m ((c : Thread nD τ).loc main_arg8) := W2_args m ρ c main_arg8 (by decide)
  rw [e5, e6, e8, entry_p, entry_w']
  refine congrArg (fun v => head _ v (m ((c : Thread nD τ).loc main_arg8) (ix1 n))) (funext fun j => ?_)
  exact transpose_ix2_apply _ _ n j

end Cert.Proof.Pool

end
-- ==== Proof.Softmax.lean ====
/- For finite tokens the two ways of pooling a group agree: the softmax with its exponents taken below the largest score,
   and the exponentials of the scores themselves divided by their sum at the end. -/
module

public import proofs.«01_k».proof.Proof.Tail
public import Idealize.ShloMosaic.PureOps.Ideal.Laws

@[expose] public section

noncomputable section

namespace Cert.Proof.Pool

open Idealize.ShloMosaic
open scoped BigOperators

/-- A sum of reals, read in the extended reals. -/
theorem sum_real {n : Nat} (f : Fin n → ℝ) : ∑ i, ((f i : ℝ) : EReal) = ((∑ i, f i : ℝ) : EReal) := by
  induction (Finset.univ : Finset (Fin n)) using Finset.induction_on with
  | empty => simp
  | insert a s ha ih => rw [Finset.sum_insert ha, Finset.sum_insert ha, ih, EReal.coe_add]

/-- The largest of finitely many reals, at least one, is a real. -/
theorem top_real {n : Nat} (s : Fin (n + 1) → ℝ) : ∃ M : ℝ, top (fun k => ((s k : ℝ) : EReal)) = (M : EReal) := by
  have hlt : top (fun k => ((s k : ℝ) : EReal)) < ⊤ :=
    (Finset.fold_max_lt _).2 ⟨bot_lt_top, fun k _ => EReal.coe_lt_top (s k)⟩
  have hgt : ⊥ < top (fun k => ((s k : ℝ) : EReal)) :=
    (Finset.lt_fold_max _).2 (.inr ⟨0, Finset.mem_univ _, EReal.bot_lt_coe (s 0)⟩)
  exact ⟨_, (EReal.coe_toReal hlt.ne hgt.ne').symm⟩

/-- The softmax of real scores does not depend on what is subtracted from them. -/
theorem softmax_real {n : Nat} (s : Fin (n + 1) → ℝ) (k : Fin (n + 1)) :
    softmax (fun k => ((s k : ℝ) : EReal)) k = ((Real.exp (s k) * (1 / ∑ k', Real.exp (s k')) : ℝ) : EReal) := by
  obtain ⟨M, hM⟩ := top_real s
  have hpos : 0 < ∑ k', Real.exp (s k') := Finset.sum_pos (fun _ _ => Real.exp_pos _) ⟨0, Finset.mem_univ _⟩
  have hsum : ∑ k', Real.exp (s k' - M) = (∑ k', Real.exp (s k')) * Real.exp (-M) := by
    rw [Finset.sum_mul]
    exact Finset.sum_congr rfl fun k' _ => by rw [← Real.exp_add, sub_eq_add_neg]
  have hne : ∑ k', Real.exp (s k' - M) ≠ 0 := by
    rw [hsum]
    exact mul_ne_zero hpos.ne' (Real.exp_ne_zero _)
  have he : ∀ k', Ideal.exp ((s k' : EReal) - (M : EReal)) = ((Real.exp (s k' - M) : ℝ) : EReal) := fun k' => by
    rw [← EReal.coe_sub, Ideal.exp_coe]
  unfold softmax
  rw [hM]
  simp only [he]
  rw [sum_real, Ideal.div_coe hne, ← EReal.coe_mul, hsum, sub_eq_add_neg, Real.exp_add]
  congr 1
  have hM0 : Real.exp (-M) ≠ 0 := Real.exp_ne_zero _
  have hp0 := hpos.ne'
  field_simp

/-- A group of finite tokens pooled by the softmax is the group pooled with one division at the end. -/
theorem pool_eq_group (w : Fin 768 → EReal) (x : Fin 64 → Fin 768 → EReal) (hw : ∀ e, ∃ r : ℝ, w e = (r : EReal))
    (hx : ∀ t e, ∃ r : ℝ, x t e = (r : EReal)) (e : Fin 768) : pool w x e = group w x e := by
  choose W hW using hw
  choose X hX using hx
  have hs : (fun t => dot w (x t)) = fun t => ((∑ e, X t e * W e : ℝ) : EReal) := funext fun t => by
    unfold dot
    rw [← sum_real]
    exact Finset.sum_congr rfl fun e _ => by rw [hX, hW, EReal.coe_mul]
  have hpos : 0 < ∑ t : Fin 64, Real.exp (∑ e, X t e * W e) := Finset.sum_pos (fun _ _ => Real.exp_pos _) ⟨0, Finset.mem_univ _⟩
  unfold pool group
  rw [hs]
  simp only [fun t => congrFun hs t, Ideal.exp_coe]
  have hl : ∀ t : Fin 64, softmax (fun t => ((∑ e, X t e * W e : ℝ) : EReal)) t * x t e
      = ((Real.exp (∑ e, X t e * W e) * (1 / ∑ t', Real.exp (∑ e, X t' e * W e)) * X t e : ℝ) : EReal) := fun t => by
    rw [softmax_real (n := 63), hX, ← EReal.coe_mul]
  have hr : ∀ t : Fin 64, ((Real.exp (∑ e, X t e * W e) : ℝ) : EReal) * x t e
      = ((Real.exp (∑ e, X t e * W e) * X t e : ℝ) : EReal) := fun t => by rw [hX, EReal.coe_mul]
  simp only [hl, hr]
  rw [sum_real, sum_real, sum_real, Ideal.div_coe hpos.ne', one_mul, ← EReal.coe_mul, Finset.sum_mul]
  exact congrArg _ (Finset.sum_congr rfl fun t _ => by ring)

end Cert.Proof.Pool

end
-- ==== Proof.Ref.lean ====
/- The reference read at an index: with both masks true everywhere it pools each group by the softmax of its tokens'
   scores, pools the groups the same way, and applies the two dense layers. -/
module

public import proofs.«01_k».proof.Proof.Mlp
public import proofs.«01_k».proof.Proof.Gen.ReferenceIdeal.Read

@[expose] public section

set_option maxRecDepth 16384

noncomputable section

namespace Cert.Proof.Ref

open Cert.ReferenceIdeal Cert.ReferenceIdeal.Gen Cert.ReferenceIdeal.Read
open Cert.Proof.Pool (dot top softmax pool hidden head ofBits_bot)
open Idealize.ShloMosaic Idealize.ShloMosaic.ValueIdx
open scoped BigOperators

/-- A choice made by a true bit. -/
theorem select_one {α : Type} {b : BitVec 1} (h : b = 1#1) (x y : α) : Scalar.select b x y = x := by
  subst h
  rfl

/-- The larger of minus infinity and a value. -/
theorem max_neg_inf (x : EReal) : max (Ideal.ofBits .f32 0xFF800000#32) x = x := by
  rw [ofBits_bot]
  exact bot_sup_eq x

variable (x : FVec Ideal S64x32x64x768 .f32) (m1 : IVec S64x32 1) (m2 : IVec S64x32x64 1) (w kw : FVec Ideal S768 .f32)
variable (w1 : FVec Ideal S768x1024 .f32) (b1 : FVec Ideal S1024 .f32) (w2 : FVec Ideal S1024x20 .f32) (b2 : FVec Ideal S20 .f32)
variable (h1 : ∀ i, m1 i = 1#1) (h2 : ∀ i, m2 i = 1#1)

/-- The tokens of a group. -/
abbrev tokens (i : Fin 64) (k : Fin 32) (t : Fin 64) (e : Fin 768) : EReal := x (ix4 i k t e)

/-- The scores of a group's tokens. -/
abbrev tokenScores (i : Fin 64) (k : Fin 32) (t : Fin 64) : EReal := dot (fun e => w (ix1 e)) (tokens x i k t)

/-- A batch row's groups, pooled. -/
abbrev groups (i : Fin 64) (k : Fin 32) (e : Fin 768) : EReal := pool (fun e => w (ix1 e)) (tokens x i k) e

/-- The scores of a batch row's groups. -/
abbrev groupScores (i : Fin 64) (k : Fin 32) : EReal := dot (fun e => kw (ix1 e)) (groups x w i k)

include h2

/-! ## Tokens -/

theorem v1_ix (i : Fin 64) (k : Fin 32) (t : Fin 64) : val_main_v1 (F := Ideal) x m2 w (ix3 i k t) = tokenScores x w i k t := by
  rw [val_main_v1_apply, select_one (h2 _), val_main_v0_apply]
  refine Finset.sum_congr rfl fun e _ => congrArg₂ (fun a b : EReal => a * b) (congrArg x ?_) (congrArg w ?_)
  · exact funext fun a => match a with | ⟨0, _⟩ => rfl | ⟨1, _⟩ => rfl | ⟨2, _⟩ => rfl | ⟨3, _⟩ => rfl
  · exact funext fun a => match a with | ⟨0, _⟩ => rfl

theorem v2_ix (i : Fin 64) (k : Fin 32) : val_main_v2 (F := Ideal) x m2 w (ix2 i k) = top (tokenScores x w i k) := by
  unfold val_main_v2
  have hr : S64x32x64.Reduces [2] S64x32 := by decide
  refine (Host.reduce_eq_fold_single (α := EReal) max _ _ reducesTo_S64x32x64_S64x32_d2 hr h_S_ (ix2 i k)).trans ?_
  have hf : (val_main_v1 (F := Ideal) x m2 w ∘ hr.lift (ix2 i k)) = tokenScores x w i k := funext fun t => by
    refine Eq.trans (congrArg (val_main_v1 (F := Ideal) x m2 w) ?_) (v1_ix x m2 w h2 i k t)
    exact funext fun a => match a with | ⟨0, _⟩ => rfl | ⟨1, _⟩ => rfl | ⟨2, _⟩ => rfl
  rw [hf]
  exact congrArg (fun b : EReal => (Finset.univ : Finset (Fin 64)).fold max b (tokenScores x w i k)) ofBits_bot

theorem v6_ix (i : Fin 64) (k : Fin 32) (t : Fin 64) : val_main_v6 (F := Ideal) x m2 w (ix3 i k t) = top (tokenScores x w i k) := by
  rw [val_main_v6_apply, val_main_v5_apply, val_main_v4_apply, val_main_v3_apply]
  refine (max_neg_inf _).trans (Eq.trans (congrArg (val_main_v2 (F := Ideal) x m2 w) ?_) (v2_ix x m2 w h2 i k))
  exact funext fun a => match a with | ⟨0, _⟩ => rfl | ⟨1, _⟩ => rfl

theorem v8_ix (i : Fin 64) (k : Fin 32) (t : Fin 64) :
    val_main_v8 (F := Ideal) x m2 w (ix3 i k t) = Ideal.exp (tokenScores x w i k t - top (tokenScores x w i k)) := by
  rw [val_main_v8_apply, val_main_v7_apply, v1_ix x m2 w h2, v6_ix x m2 w h2]
  rfl

theorem v12_ix (i : Fin 64) (k : Fin 32) (t : Fin 64) :
    val_main_v12 (F := Ideal) x m2 w (ix3 i k t) = softmax (tokenScores x w i k) t := by
  rw [val_main_v12_apply, val_main_v11_apply, val_main_v10_apply, val_main_v9_apply, v8_ix x m2 w h2]
  refine congrArg (Ideal.div _) ((congrArg₂ (· + ·) Ideal.ofBits_zero_f32 (Finset.sum_congr rfl fun t' _ => ?_)).trans (zero_add _))
  refine Eq.trans (congrArg (val_main_v8 (F := Ideal) x m2 w) ?_) (v8_ix x m2 w h2 i k t')
  exact funext fun a => match a with | ⟨0, _⟩ => rfl | ⟨1, _⟩ => rfl | ⟨2, _⟩ => rfl

theorem v13_ix (i : Fin 64) (k : Fin 32) (e : Fin 768) : val_main_v13 (F := Ideal) x m2 w (ix3 i k e) = groups x w i k e := by
  rw [val_main_v13_apply]
  refine Finset.sum_congr rfl fun t _ => congrArg₂ (fun a b : EReal => a * b) ?_ (congrArg x ?_)
  · refine Eq.trans (congrArg (val_main_v12 (F := Ideal) x m2 w) ?_) (v12_ix x m2 w h2 i k t)
    exact funext fun a => match a with | ⟨0, _⟩ => rfl | ⟨1, _⟩ => rfl | ⟨2, _⟩ => rfl
  · exact funext fun a => match a with | ⟨0, _⟩ => rfl | ⟨1, _⟩ => rfl | ⟨2, _⟩ => rfl | ⟨3, _⟩ => rfl

/-! ## Groups -/

include h1

theorem v15_ix (i : Fin 64) (k : Fin 32) (e : Fin 768) : val_main_v15 (F := Ideal) x m1 m2 w (ix3 i k e) = groups x w i k e := by
  have hm : val_main_call1_v1 (F := Ideal) m1 (ix3 i k e) = 1#1 := by
    rw [val_main_call1_v1_apply, val_main_v14_apply]
    exact h1 _
  rw [val_main_v15_apply, select_one hm, v13_ix x m2 w h2]

theorem v17_ix (i : Fin 64) (k : Fin 32) : val_main_v17 (F := Ideal) x m1 m2 w kw (ix2 i k) = groupScores x w kw i k := by
  rw [val_main_v17_apply, select_one (h1 _), val_main_v16_apply]
  refine Finset.sum_congr rfl fun e _ => congrArg₂ (fun a b : EReal => a * b) ?_ (congrArg kw ?_)
  · refine Eq.trans (congrArg (val_main_v15 (F := Ideal) x m1 m2 w) ?_) (v15_ix x m1 m2 w h1 h2 i k e)
    exact funext fun a => match a with | ⟨0, _⟩ => rfl | ⟨1, _⟩ => rfl | ⟨2, _⟩ => rfl
  · exact funext fun a => match a with | ⟨0, _⟩ => rfl

theorem v18_ix (i : Fin 64) : val_main_v18 (F := Ideal) x m1 m2 w kw (ix1 i) = top (groupScores x w kw i) := by
  unfold val_main_v18
  have hr : S64x32.Reduces [1] S64 := by decide
  refine (Host.reduce_eq_fold_single (α := EReal) max _ _ reducesTo_S64x32_S64_d1 hr h_S_ (ix1 i)).trans ?_
  have hf : (val_main_v17 (F := Ideal) x m1 m2 w kw ∘ hr.lift (ix1 i)) = groupScores x w kw i := funext fun k => by
    refine Eq.trans (congrArg (val_main_v17 (F := Ideal) x m1 m2 w kw) ?_) (v17_ix x m1 m2 w kw h1 h2 i k)
    exact funext fun a => match a with | ⟨0, _⟩ => rfl | ⟨1, _⟩ => rfl
  rw [hf]
  exact congrArg (fun b : EReal => (Finset.univ : Finset (Fin 32)).fold max b (groupScores x w kw i)) ofBits_bot

theorem v22_ix (i : Fin 64) (k : Fin 32) : val_main_v22 (F := Ideal) x m1 m2 w kw (ix2 i k) = top (groupScores x w kw i) := by
  rw [val_main_v22_apply, val_main_v21_apply, val_main_v20_apply, val_main_v19_apply]
  refine (max_neg_inf _).trans (Eq.trans (congrArg (val_main_v18 (F := Ideal) x m1 m2 w kw) ?_) (v18_ix x m1 m2 w kw h1 h2 i))
  exact funext fun a => match a with | ⟨0, _⟩ => rfl

theorem v24_ix (i : Fin 64) (k : Fin 32) :
    val_main_v24 (F := Ideal) x m1 m2 w kw (ix2 i k) = Ideal.exp (groupScores x w kw i k - top (groupScores x w kw i)) := by
  rw [val_main_v24_apply, val_main_v23_apply, v17_ix x m1 m2 w kw h1 h2, v22_ix x m1 m2 w kw h1 h2]
  rfl

theorem v28_ix (i : Fin 64) (k : Fin 32) : val_main_v28 (F := Ideal) x m1 m2 w kw (ix2 i k) = softmax (groupScores x w kw i) k := by
  rw [val_main_v28_apply, val_main_v27_apply, val_main_v26_apply, val_main_v25_apply, v24_ix x m1 m2 w kw h1 h2]
  refine congrArg (Ideal.div _) ((congrArg₂ (· + ·) Ideal.ofBits_zero_f32 (Finset.sum_congr rfl fun k' _ => ?_)).trans (zero_add _))
  refine Eq.trans (congrArg (val_main_v24 (F := Ideal) x m1 m2 w kw) ?_) (v24_ix x m1 m2 w kw h1 h2 i k')
  exact funext fun a => match a with | ⟨0, _⟩ => rfl | ⟨1, _⟩ => rfl

theorem v29_ix (i : Fin 64) (e : Fin 768) :
    val_main_v29 (F := Ideal) x m1 m2 w kw (ix2 i e) = pool (fun e => kw (ix1 e)) (groups x w i) e := by
  rw [val_main_v29_apply]
  refine Finset.sum_congr rfl fun k _ => congrArg₂ (fun a b : EReal => a * b) ?_ ?_
  · refine Eq.trans (congrArg (val_main_v28 (F := Ideal) x m1 m2 w kw) ?_) (v28_ix x m1 m2 w kw h1 h2 i k)
    exact funext fun a => match a with | ⟨0, _⟩ => rfl | ⟨1, _⟩ => rfl
  · refine Eq.trans (congrArg (val_main_v15 (F := Ideal) x m1 m2 w) ?_) (v15_ix x m1 m2 w h1 h2 i k e)
    exact funext fun a => match a with | ⟨0, _⟩ => rfl | ⟨1, _⟩ => rfl | ⟨2, _⟩ => rfl

/-! ## The dense layers -/

theorem v34_ix (i : Fin 64) (j : Fin 1024) : val_main_v34 (F := Ideal) x m1 m2 w kw w1 b1 (ix2 i j)
    = hidden (pool (fun e => kw (ix1 e)) (groups x w i)) w1 b1 j := by
  rw [val_main_v34_apply, val_main_v33_apply, val_main_v30_apply, val_main_v32_apply, val_main_v31_apply, val_main_call3_v0_apply]
  refine congrArg₂ max (congrArg₂ (· + ·) (Finset.sum_congr rfl fun e _ => congrArg₂ (fun a b : EReal => a * b) ?_ (congrArg w1 ?_))
    (congrArg b1 ?_)) Ideal.ofBits_zero_f32
  · refine Eq.trans (congrArg (val_main_v29 (F := Ideal) x m1 m2 w kw) ?_) (v29_ix x m1 m2 w kw h1 h2 i e)
    exact funext fun a => match a with | ⟨0, _⟩ => rfl | ⟨1, _⟩ => rfl
  · exact funext fun a => match a with | ⟨0, _⟩ => rfl | ⟨1, _⟩ => rfl
  · exact funext fun a => match a with | ⟨0, _⟩ => rfl

/-- The reference's result. -/
theorem v38_ix (i : Fin 64) (n : Fin 20) : val_main_v38 (F := Ideal) x m1 m2 w kw w1 b1 w2 b2 (ix2 i n)
    = head (hidden (pool (fun e => kw (ix1 e)) (groups x w i)) w1 b1) (fun j => w2 (ix2 j n)) (b2 (ix1 n)) := by
  rw [val_main_v38_apply, val_main_v35_apply, val_main_v37_apply, val_main_v36_apply]
  refine congrArg₂ (· + ·) (Finset.sum_congr rfl fun j _ => congrArg₂ (fun a b : EReal => a * b) ?_ (congrArg w2 ?_)) (congrArg b2 ?_)
  · refine Eq.trans (congrArg (val_main_v34 (F := Ideal) x m1 m2 w kw w1 b1) ?_) (v34_ix x m1 m2 w kw w1 b1 h1 h2 i j)
    exact funext fun a => match a with | ⟨0, _⟩ => rfl | ⟨1, _⟩ => rfl
  · exact funext fun a => match a with | ⟨0, _⟩ => rfl | ⟨1, _⟩ => rfl
  · exact funext fun a => match a with | ⟨0, _⟩ => rfl

end Cert.Proof.Ref

end
-- ==== Proof.Equal.lean ====
/- The kernel's result and the reference's are the same array when the tokens and the token weights are finite and the
   masks keep everything. -/
module

public import proofs.«01_k».proof.Proof.Softmax
public import proofs.«01_k».proof.Proof.Ref

@[expose] public section

noncomputable section

namespace Cert.Proof.Equal

open Cert.ReferenceIdeal Cert.ReferenceIdeal.Read
open Cert.Proof.Pool
open Idealize.ShloMosaic Idealize.ShloMosaic.ValueIdx

variable (x : FVec Ideal S64x32x64x768 .f32) (m1 : IVec S64x32 1) (m2 : IVec S64x32x64 1) (w kw : FVec Ideal S768 .f32)
variable (w1 : FVec Ideal S768x1024 .f32) (b1 : FVec Ideal S1024 .f32) (w2 : FVec Ideal S1024x20 .f32) (b2 : FVec Ideal S20 .f32)

/-- The reference's element, in the kernel's form. -/
theorem reference_value (hx : ∀ i, ∃ r : ℝ, x i = (r : EReal)) (hw : ∀ i, ∃ r : ℝ, w i = (r : EReal)) (h1 : ∀ i, m1 i = 1#1)
    (h2 : ∀ i, m2 i = 1#1) (i : Fin 64) (n : Fin 20) :
    val_main_v38 (F := Ideal) x m1 m2 w kw w1 b1 w2 b2 (ix2 i n) = result x w kw w1 b1 w2 b2 i n := by
  have hg : Ref.groups x w i = fun k e => group (fun e => w (ix1 e)) (fun t e => x (ix4 i k t e)) e := funext fun k => funext fun e =>
    pool_eq_group _ _ (fun e => hw (ix1 e)) (fun t e => hx (ix4 i k t e)) e
  rw [Ref.v38_ix x m1 m2 w kw w1 b1 w2 b2 h1 h2, hg]
  rfl

end Cert.Proof.Equal

end
-- ==== Proof.Finite.lean ====
/- What the precondition says of the arguments: every token and every entry of the token weights is a real number, and
   both masks are true everywhere. -/
module

public import proofs.«01_k».proof.Pre_finite_unmasked
public import Idealize.ShloMosaic.Lib.ReduceAll
public import Idealize.ShloMosaic.PureOps.Ideal.Laws

@[expose] public section

noncomputable section

namespace Cert.Proof.Finite

open Cert.Pre_finite_unmasked
open Idealize.ShloMosaic

/-- An `and` of two bits that is 1 has both bits 1. -/
theorem and_one {a b : BitVec 1} (h : a &&& b = 1#1) : a = 1#1 ∧ b = 1#1 := by
  revert a b
  decide

/-- An extended real below infinity in absolute value is a real. -/
theorem real_of_abs_lt (x : EReal) (h : max x (-x) < ⊤) : ∃ r : ℝ, x = (r : EReal) := by
  induction x using EReal.rec with
  | bot => simp at h
  | coe r => exact ⟨r, rfl⟩
  | top => simp at h

theorem ofBits_top : Ideal.ofBits .f32 0x7F800000#32 = (⊤ : EReal) := by
  simp [Ideal.ofBits, Ideal.ieee]

/-- The comparison the precondition makes of an element. -/
theorem real_of_cmp {s : Shape} (x : FVec Ideal s .f32) (y : FVec Ideal s .f32) (i : s.Idx) (hy : y i = (⊤ : EReal))
    (h : cmpf .olt (Host.absf x) y i = 1#1) : ∃ r : ℝ, x i = (r : EReal) := by
  refine real_of_abs_lt (x i) ?_
  have h' : Ideal.cmp .olt (max (x i : EReal) (-(x i : EReal))) (y i) = 1#1 := h
  rw [hy] at h'
  by_contra hn
  have h0 : Ideal.cmp .olt (max (x i : EReal) (-(x i : EReal))) ⊤ = 0#1 := by
    show BitVec.ofBool (decide _) = 0#1
    rw [decide_eq_false hn]
    rfl
  rw [h0] at h'
  exact absurd h' (by decide)

variable [Facts] in
/-- The precondition, opened. -/
theorem of_pre (a0 : FVec Ideal S64x32x64x768 .f32) (a1 : IVec S64x32 1) (a2 : IVec S64x32x64 1) (a3 a4 : FVec Ideal S768 .f32)
    (a5 : FVec Ideal S768x1024 .f32) (a6 : FVec Ideal S1024 .f32) (a7 : FVec Ideal S1024x20 .f32) (a8 : FVec Ideal S20 .f32)
    (h : fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, a1 i = 1#1) ∧ ∀ i, a2 i = 1#1 := by
  have hj := congrFun h (fun a => a.elim0)
  haveI : Subsingleton S_.Idx := ⟨fun a b => funext fun i => i.elim0⟩
  obtain ⟨hj, h2⟩ := and_one hj
  obtain ⟨hj, h1⟩ := and_one hj
  obtain ⟨h0, h3⟩ := and_one hj
  refine ⟨fun i => ?_, fun i => ?_, fun i => ?_, fun i => ?_⟩
  · exact real_of_cmp a0 _ i ofBits_top (Host.reduce_andi_all _ _ _ _ _ h0 i)
  · exact real_of_cmp a3 _ i ofBits_top (Host.reduce_andi_all _ _ _ _ _ h3 i)
  · exact Host.reduce_andi_all _ _ _ _ _ h1 i
  · exact Host.reduce_andi_all _ _ _ _ _ h2 i

end Cert.Proof.Finite

end
-- ==== Proof.lean ====
/- The claims about the kernel, its idealized form and the idealized reference, put together: each program's frame, and
   the equality of the two results from the kernel's run, the reference's run and the values the two leave. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_unmasked
public import proofs.«01_k».proof.Proof.Run
public import proofs.«01_k».proof.Proof.Mlp
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.SL.Sem

/-- The reference runs, leaves its arguments as they were, and has no semaphore to count. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- The two programs end with the same result. -/
theorem algebraic : Cert.algebraic_KernelIdeal_ReferenceIdeal_pre_finite_unmasked := by
  intro m g m' g' hpre hargs
  refine ⟨fun c => Cert.KernelIdeal.Gen.W4 m g c (Proc.devRef .tc Cert.KernelIdeal.main_v3), KernelRun.run m g, ?_⟩
  refine (θ_run _ _ _).mono (fun r h c => ⟨(h c).1.trans ?_, (h c).2⟩) (Cert.ReferenceIdeal.Value.run m' g')
  obtain ⟨hx, hw, h1, h2⟩ := Finite.of_pre _ _ _ _ _ _ _ _ _ (hpre c)
  obtain ⟨e0, e1, e2, e3, e4, e5, e6, e7, e8⟩ := hargs c
  rw [Cert.ReferenceIdeal.Read.val_main_v38_eq m' c, e0, e1, e2, e3, e4, e5, e6, e7, e8]
  funext i
  rw [eq_ix2 i]
  exact (Equal.reference_value _ _ _ _ _ _ _ _ _ hx hw h1 h2 _ _).trans (Pool.kernel_value m g c _ _).symm

theorem claim : Cert.Claim :=
  ⟨Cert.Kernel.Gen.facts, Cert.KernelIdeal.Gen.facts, Cert.ReferenceIdeal.Gen.facts, Cert.Pre_finite_unmasked.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
